-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_uniform [hPre_finite_and_uniform : Cert.Pre_finite_and_uniform.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_uniform.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_uniform [hPre_finite_and_uniform : Cert.Pre_finite_and_uniform.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_uniform.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_and_uniform [hKernelIdeal : Cert.KernelIdeal.Facts] [hPre_finite_and_uniform : Cert.Pre_finite_and_uniform.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_uniform m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_and_uniform [hReferenceIdeal : Cert.ReferenceIdeal.Facts] [hPre_finite_and_uniform : Cert.Pre_finite_and_uniform.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_uniform m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_and_uniform [hKernelIdeal : Cert.KernelIdeal.Facts] [hReferenceIdeal : Cert.ReferenceIdeal.Facts] [hPre_finite_and_uniform : Cert.Pre_finite_and_uniform.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_uniform m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_and_uniform : Cert.Pre_finite_and_uniform.Facts),
    quiescent_Kernel (hKernel := hKernel)
    ∧ quiescent_KernelIdeal (hKernelIdeal := hKernelIdeal)
    ∧ quiescent_KernelIdeal_pre_finite_and_uniform (hKernelIdeal := hKernelIdeal) (hPre_finite_and_uniform := hPre_finite_and_uniform)
    ∧ quiescent_ReferenceIdeal (hReferenceIdeal := hReferenceIdeal)
    ∧ quiescent_ReferenceIdeal_pre_finite_and_uniform (hReferenceIdeal := hReferenceIdeal) (hPre_finite_and_uniform := hPre_finite_and_uniform)
    ∧ preserves_Kernel_KernelIdeal
    ∧ algebraic_KernelIdeal_ReferenceIdeal_pre_finite_and_uniform (hKernelIdeal := hKernelIdeal) (hReferenceIdeal := hReferenceIdeal) (hPre_finite_and_uniform := hPre_finite_and_uniform)
-- ==== Pre_finite_and_uniform.lean ====
abbrev S4x512x2048 : Shape := ⟨3, ![4, 512, 2048]⟩
abbrev S4x2048x2 : Shape := ⟨3, ![4, 2048, 2]⟩
abbrev S2x512 : Shape := ⟨2, ![2, 512]⟩
abbrev S2 : Shape := ⟨1, ![2]⟩
abbrev S_ : Shape := ⟨0, ![]⟩

class Facts : Prop where
  bcast_S_S4x512x2048 : S_.BroadcastsInDim S4x512x2048 (![] : Fin 0 → Fin S4x512x2048.rank)
  reducesTo_S4x512x2048_S_d0_1_2 : S4x512x2048.ReducesTo [0, 1, 2] S_
  h_S_ : 0 < S_.numel
  bcast_S_S2x512 : S_.BroadcastsInDim S2x512 (![] : Fin 0 → Fin S2x512.rank)
  reducesTo_S2x512_S_d0_1 : S2x512.ReducesTo [0, 1] S_
  bcast_S_S2 : S_.BroadcastsInDim S2 (![] : Fin 0 → Fin S2.rank)
  reducesTo_S2_S_d0 : S2.ReducesTo [0] S_
  bcast_S_S4x2048x2 : S_.BroadcastsInDim S4x2048x2 (![] : Fin 0 → Fin S4x2048x2.rank)
  reducesTo_S4x2048x2_S_d0_1_2 : S4x2048x2.ReducesTo [0, 1, 2] S_

variable [Facts]

def fn_part1 {F : FTy → Type} [FloatOps F] (main_arg2 : FVec F S4x2048x2 .f32) (main_v13 : IVec S_ 1) (main_v15 : IVec S4x2048x2 1) (main_cst_5 : FVec F S_ .f32) : IVec S_ 1 :=
  let main_v16 : FVec F S4x2048x2 .f32 := broadcastInDim S4x2048x2 ![] bcast_S_S4x2048x2 main_cst_5
  let main_v17 : IVec S4x2048x2 1 := cmpf .ole main_arg2 main_v16
  let main_v18 : IVec S4x2048x2 1 := andi main_v15 main_v17
  let main_c_6 : IVec S_ 1 := constantI S_ 1 1#1
  let main_v19 : IVec S_ 1 := (fun x v => Host.reduce IntOp.andi x v reducesTo_S4x2048x2_S_d0_1_2 h_S_) main_v18 main_c_6
  let main_v20 : IVec S_ 1 := andi main_v13 main_v19
  main_v20

def fn {F : FTy → Type} [FloatOps F] (main_arg0 : FVec F S4x512x2048 .f32) (main_arg1 : FVec F S4x512x2048 .f32) (main_arg2 : FVec F S4x2048x2 .f32) (main_arg3 : FVec F S2x512 .f32) (main_arg4 : FVec F S2 .f32) : IVec S_ 1 :=
  let main_v0 : FVec F S4x512x2048 .f32 := Host.absf main_arg0
  let main_cst : FVec F S_ .f32 := constant S_ .f32 0x7F800000#32
  let main_v1 : FVec F S4x512x2048 .f32 := broadcastInDim S4x512x2048 ![] bcast_S_S4x512x2048 main_cst
  let main_v2 : IVec S4x512x2048 1 := cmpf .olt main_v0 main_v1
  let main_c : IVec S_ 1 := constantI S_ 1 1#1
  let main_v3 : IVec S_ 1 := (fun x v => Host.reduce IntOp.andi x v reducesTo_S4x512x2048_S_d0_1_2 h_S_) main_v2 main_c
  let main_v4 : FVec F S2x512 .f32 := Host.absf main_arg3
  let main_cst_0 : FVec F S_ .f32 := constant S_ .f32 0x7F800000#32
  let main_v5 : FVec F S2x512 .f32 := broadcastInDim S2x512 ![] bcast_S_S2x512 main_cst_0
  let main_v6 : IVec S2x512 1 := cmpf .olt main_v4 main_v5
  let main_c_1 : IVec S_ 1 := constantI S_ 1 1#1
  let main_v7 : IVec S_ 1 := (fun x v => Host.reduce IntOp.andi x v reducesTo_S2x512_S_d0_1 h_S_) main_v6 main_c_1
  let main_v8 : IVec S_ 1 := andi main_v3 main_v7
  let main_v9 : FVec F S2 .f32 := Host.absf main_arg4
  let main_cst_2 : FVec F S_ .f32 := constant S_ .f32 0x7F800000#32
  let main_v10 : FVec F S2 .f32 := broadcastInDim S2 ![] bcast_S_S2 main_cst_2
  let main_v11 : IVec S2 1 := cmpf .olt main_v9 main_v10
  let main_c_3 : IVec S_ 1 := constantI S_ 1 1#1
  let main_v12 : IVec S_ 1 := (fun x v => Host.reduce IntOp.andi x v reducesTo_S2_S_d0 h_S_) main_v11 main_c_3
  let main_v13 : IVec S_ 1 := andi main_v8 main_v12
  let main_cst_4 : FVec F S_ .f32 := constant S_ .f32 0x00000000#32
  let main_v14 : FVec F S4x2048x2 .f32 := broadcastInDim S4x2048x2 ![] bcast_S_S4x2048x2 main_cst_4
  let main_v15 : IVec S4x2048x2 1 := cmpf .oge main_arg2 main_v14
  let main_cst_5 : FVec F S_ .f32 := constant S_ .f32 0x3F800000#32
  fn_part1 (F := F) main_arg2 main_v13 main_v15 main_cst_5
-- ==== Kernel.lean ====
abbrev S4x512x2048 : Shape := ⟨3, ![4, 512, 2048]⟩
abbrev S4x2048x2 : Shape := ⟨3, ![4, 2048, 2]⟩
abbrev S2x512 : Shape := ⟨2, ![2, 512]⟩
abbrev S2 : Shape := ⟨1, ![2]⟩
abbrev S4x2x2048 : Shape := ⟨3, ![4, 2, 2048]⟩
abbrev S1x512x2048 : Shape := ⟨3, ![1, 512, 2048]⟩
abbrev S1x2x2048 : Shape := ⟨3, ![1, 2, 2048]⟩
abbrev S512x2048 : Shape := ⟨2, ![512, 2048]⟩
abbrev S2x2048 : Shape := ⟨2, ![2, 2048]⟩
abbrev S1x2048 : Shape := ⟨2, ![1, 2048]⟩
abbrev S1 : Shape := ⟨1, ![1]⟩
abbrev S1x1x2048 : Shape := ⟨3, ![1, 1, 2048]⟩
abbrev S512x1 : Shape := ⟨2, ![512, 1]⟩
abbrev S512x2046 : Shape := ⟨2, ![512, 2046]⟩
abbrev S512x2047 : Shape := ⟨2, ![512, 2047]⟩

abbrev nBuf : Space → Nat
  | .hbm => 9
  | .vmem => 11
  | .smem => 1
  | _ => 0

abbrev bufTy : (tb : Table) → Fin (tcTables nBuf tb) → BufTy
  | .hbm, ⟨0, _⟩ => ⟨S4x512x2048, .f32⟩
  | .hbm, ⟨1, _⟩ => ⟨S4x512x2048, .f32⟩
  | .hbm, ⟨2, _⟩ => ⟨S4x2048x2, .f32⟩
  | .hbm, ⟨3, _⟩ => ⟨S2x512, .f32⟩
  | .hbm, ⟨4, _⟩ => ⟨S2, .f32⟩
  | .hbm, ⟨5, _⟩ => ⟨S4x2x2048, .f32⟩
  | .hbm, ⟨6, _⟩ => ⟨S4x2x2048, .f32⟩
  | .hbm, ⟨7, _⟩ => ⟨S4x512x2048, .f32⟩
  | .hbm, ⟨8, _⟩ => ⟨S4x2048x2, .f32⟩
  | .local _ .vmem, ⟨0, _⟩ => ⟨S1x512x2048, .f32⟩
  | .local _ .vmem, ⟨1, _⟩ => ⟨S1x512x2048, .f32⟩
  | .local _ .vmem, ⟨2, _⟩ => ⟨S1x2x2048, .f32⟩
  | .local _ .vmem, ⟨3, _⟩ => ⟨S1x2x2048, .f32⟩
  | .local _ .vmem, ⟨4, _⟩ => ⟨S2x512, .f32⟩
  | .local _ .vmem, ⟨5, _⟩ => ⟨S1x512x2048, .f32⟩
  | .local _ .vmem, ⟨6, _⟩ => ⟨S1x512x2048, .f32⟩
  | .local _ .vmem, ⟨7, _⟩ => ⟨S1x2x2048, .f32⟩
  | .local _ .vmem, ⟨8, _⟩ => ⟨S1x2x2048, .f32⟩
  | .local _ .vmem, ⟨9, _⟩ => ⟨S1x512x2048, .f32⟩
  | .local _ .vmem, ⟨10, _⟩ => ⟨S1x512x2048, .f32⟩
  | .local _ .smem, ⟨0, _⟩ => ⟨S2, .f32⟩
  | _, _ => ⟨S4x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S4x512x2048 : Shape := ⟨3, ![4, 512, 2048]⟩
abbrev S4x2048x2 : Shape := ⟨3, ![4, 2048, 2]⟩
abbrev S2x512 : Shape := ⟨2, ![2, 512]⟩
abbrev S2 : Shape := ⟨1, ![2]⟩
abbrev S1x1x2 : Shape := ⟨3, ![1, 1, 2]⟩
abbrev S_ : Shape := ⟨0, ![]⟩
abbrev S4x2048 : Shape := ⟨2, ![4, 2048]⟩
abbrev S4x2048x1 : Shape := ⟨3, ![4, 2048, 1]⟩
abbrev S4x1x2048 : Shape := ⟨3, ![4, 1, 2048]⟩
abbrev S4x512x1 : Shape := ⟨3, ![4, 512, 1]⟩
abbrev S4x512x2 : Shape := ⟨3, ![4, 512, 2]⟩
abbrev S4x512x2050 : Shape := ⟨3, ![4, 512, 2050]⟩
abbrev S4x512x2052 : Shape := ⟨3, ![4, 512, 2052]⟩
abbrev S4x512x2048x1 : Shape := ⟨4, ![4, 512, 2048, 1]⟩
abbrev S4x512x2048x5 : Shape := ⟨4, ![4, 512, 2048, 5]⟩
abbrev S1 : Shape := ⟨1, ![1]⟩

abbrev nBuf : Space → Nat
  | .hbm => 252
  | .vmem => 0
  | .smem => 0
  | _ => 0

abbrev hbmTy0_0 (i : Nat) : BufTy := match i % 128 with
  | 0 => ⟨S4x512x2048, .f32⟩
  | 1 => ⟨S4x512x2048, .f32⟩
  | 2 => ⟨S4x2048x2, .f32⟩
  | 3 => ⟨S2x512, .f32⟩
  | 4 => ⟨S2, .f32⟩
  | 5 => ⟨S4x2048x2, .f32⟩
  | 6 => ⟨S1x1x2, .f32⟩
  | 7 => ⟨S4x2048x2, .f32⟩
  | 8 => ⟨S4x2048x2, .f32⟩
  | 9 => ⟨S_, .f32⟩
  | 10 => ⟨S4x2048x2, .f32⟩
  | 11 => ⟨S4x2048x2, .f32⟩
  | 12 => ⟨S_, .f32⟩
  | 13 => ⟨S4x2048, .f32⟩
  | 14 => ⟨S_, .f32⟩
  | 15 => ⟨S4x2048, .f32⟩
  | 16 => ⟨S4x2048, .f32⟩
  | 17 => ⟨S4x2048x1, .f32⟩
  | 18 => ⟨S4x2048x2, .f32⟩
  | 19 => ⟨S4x2048x2, .f32⟩
  | 20 => ⟨S4x2048x2, .f32⟩
  | 21 => ⟨S_, .f32⟩
  | 22 => ⟨S4x2048, .f32⟩
  | 23 => ⟨S4x2048x1, .f32⟩
  | 24 => ⟨S4x2048x2, .f32⟩
  | 25 => ⟨S4x2048x2, .f32⟩
  | 26 => ⟨S4x2048x2, .f32⟩
  | 27 => ⟨S_, .f32⟩
  | 28 => ⟨S4x2048x2, .f32⟩
  | 29 => ⟨S4x2048x2, .f32⟩
  | 30 => ⟨S4x2048x2, .f32⟩
  | 31 => ⟨S4x2048x2, .f32⟩
  | 32 => ⟨S_, .f32⟩
  | 33 => ⟨S4x2048x2, .f32⟩
  | 34 => ⟨S4x2048x2, .f32⟩
  | 35 => ⟨S4x2048x2, .f32⟩
  | 36 => ⟨S4x2048x2, .f32⟩
  | 37 => ⟨S4x2048x2, .f32⟩
  | 38 => ⟨S_, .f32⟩
  | 39 => ⟨S4x2048x2, .f32⟩
  | 40 => ⟨S4x2048x2, .f32⟩
  | 41 => ⟨S_, .f32⟩
  | 42 => ⟨S4x2048, .f32⟩
  | 43 => ⟨S_, .f32⟩
  | 44 => ⟨S4x2048, .f32⟩
  | 45 => ⟨S4x2048, .f32⟩
  | 46 => ⟨S4x2048x1, .f32⟩
  | 47 => ⟨S4x2048x2, .f32⟩
  | 48 => ⟨S4x2048x2, .f32⟩
  | 49 => ⟨S4x2048x2, .f32⟩
  | 50 => ⟨S_, .f32⟩
  | 51 => ⟨S4x2048, .f32⟩
  | 52 => ⟨S4x2048x1, .f32⟩
  | 53 => ⟨S4x2048x2, .f32⟩
  | 54 => ⟨S4x2048x2, .f32⟩
  | 55 => ⟨S4x2048x2, .i32⟩
  | 56 => ⟨S_, .f32⟩
  | 57 => ⟨S_, .i32⟩
  | 58 => ⟨S4x2048, .f32⟩
  | 59 => ⟨S4x2048, .i32⟩
  | 60 => ⟨S4x2048x1, .i32⟩
  | 61 => ⟨S1x1x2, .i32⟩
  | 62 => ⟨S4x2048x2, .i32⟩
  | 63 => ⟨S4x2048x2, .i32⟩
  | 64 => ⟨S4x2048x2, .i1⟩
  | 65 => ⟨S4x2048x2, .f32⟩
  | 66 => ⟨S4x2048x2, .f32⟩
  | 67 => ⟨S4x2048x2, .f32⟩
  | 68 => ⟨S4x2048x1, .f32⟩
  | 69 => ⟨S4x1x2048, .f32⟩
  | 70 => ⟨S4x512x2048, .f32⟩
  | 71 => ⟨S4x512x2048, .f32⟩
  | 72 => ⟨S_, .i32⟩
  | 73 => ⟨S4x512x1, .f32⟩
  | 74 => ⟨S4x512x2, .f32⟩
  | 75 => ⟨S4x512x2, .f32⟩
  | 76 => ⟨S4x512x2050, .f32⟩
  | 77 => ⟨S4x512x1, .f32⟩
  | 78 => ⟨S4x512x2, .f32⟩
  | 79 => ⟨S4x512x2, .f32⟩
  | 80 => ⟨S4x512x2052, .f32⟩
  | 81 => ⟨S4x512x2048, .f32⟩
  | 82 => ⟨S4x512x2048, .f32⟩
  | 83 => ⟨S4x512x2048, .f32⟩
  | 84 => ⟨S4x512x2048, .f32⟩
  | 85 => ⟨S4x512x2048, .f32⟩
  | 86 => ⟨S4x512x2048x1, .f32⟩
  | 87 => ⟨S4x512x2048x1, .f32⟩
  | 88 => ⟨S4x512x2048x1, .f32⟩
  | 89 => ⟨S4x512x2048x1, .f32⟩
  | 90 => ⟨S4x512x2048x1, .f32⟩
  | 91 => ⟨S4x512x2048x5, .f32⟩
  | 92 => ⟨S_, .f32⟩
  | 93 => ⟨S4x512x2048x5, .i1⟩
  | 94 => ⟨S_, .i1⟩
  | 95 => ⟨S4x512x2048, .i1⟩
  | 96 => ⟨S4x512x2048x1, .i1⟩
  | 97 => ⟨S_, .f32⟩
  | 98 => ⟨S_, .f32⟩
  | 99 => ⟨S4x512x2048x5, .i1⟩
  | 100 => ⟨S4x512x2048x5, .f32⟩
  | 101 => ⟨S4x512x2048x5, .f32⟩
  | 102 => ⟨S4x512x2048x5, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .i32⟩
  | 123 => ⟨S_, .i32⟩
  | 124 => ⟨S1, .i32⟩
  | 125 => ⟨S4x512x2048, .f32⟩
  | 126 => ⟨S1, .i32⟩
  | 127 => ⟨S4x512x2048, .f32⟩
  | _ => ⟨S4x512x2048, .f32⟩

abbrev hbmTy0_1 (i : Nat) : BufTy := match i % 128 with
  | 0 => ⟨S4x512x2048, .f32⟩
  | 1 => ⟨S_, .f32⟩
  | 2 => ⟨S4x512x2048, .f32⟩
  | 3 => ⟨S4x512x2048, .f32⟩
  | 4 => ⟨S_, .i32⟩
  | 5 => ⟨S4x512x1, .f32⟩
  | 6 => ⟨S4x512x2, .f32⟩
  | 7 => ⟨S4x512x2, .f32⟩
  | 8 => ⟨S4x512x2050, .f32⟩
  | 9 => ⟨S4x512x1, .f32⟩
  | 10 => ⟨S4x512x2, .f32⟩
  | 11 => ⟨S4x512x2, .f32⟩
  | 12 => ⟨S4x512x2052, .f32⟩
  | 13 => ⟨S4x512x2048, .f32⟩
  | 14 => ⟨S4x512x2048, .f32⟩
  | 15 => ⟨S4x512x2048, .f32⟩
  | 16 => ⟨S4x512x2048, .f32⟩
  | 17 => ⟨S4x512x2048, .f32⟩
  | 18 => ⟨S4x512x2048x1, .f32⟩
  | 19 => ⟨S4x512x2048x1, .f32⟩
  | 20 => ⟨S4x512x2048x1, .f32⟩
  | 21 => ⟨S4x512x2048x1, .f32⟩
  | 22 => ⟨S4x512x2048x1, .f32⟩
  | 23 => ⟨S4x512x2048x5, .f32⟩
  | 24 => ⟨S_, .f32⟩
  | 25 => ⟨S4x512x2048x5, .i1⟩
  | 26 => ⟨S_, .i1⟩
  | 27 => ⟨S4x512x2048, .i1⟩
  | 28 => ⟨S4x512x2048x1, .i1⟩
  | 29 => ⟨S_, .f32⟩
  | 30 => ⟨S_, .f32⟩
  | 31 => ⟨S4x512x2048x5, .i1⟩
  | 32 => ⟨S4x512x2048x5, .f32⟩
  | 33 => ⟨S4x512x2048x5, .f32⟩
  | 34 => ⟨S4x512x2048x5, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .i32⟩
  | 55 => ⟨S_, .i32⟩
  | 56 => ⟨S1, .i32⟩
  | 57 => ⟨S4x512x2048, .f32⟩
  | 58 => ⟨S1, .i32⟩
  | 59 => ⟨S4x512x2048, .f32⟩
  | 60 => ⟨S4x512x2048, .f32⟩
  | 61 => ⟨S_, .f32⟩
  | 62 => ⟨S4x512x2048, .f32⟩
  | 63 => ⟨S4x512x2048, .f32⟩
  | 64 => ⟨S_, .i32⟩
  | 65 => ⟨S4x512x1, .f32⟩
  | 66 => ⟨S4x512x2, .f32⟩
  | 67 => ⟨S4x512x2, .f32⟩
  | 68 => ⟨S4x512x2050, .f32⟩
  | 69 => ⟨S4x512x1, .f32⟩
  | 70 => ⟨S4x512x2, .f32⟩
  | 71 => ⟨S4x512x2, .f32⟩
  | 72 => ⟨S4x512x2052, .f32⟩
  | 73 => ⟨S4x512x2048, .f32⟩
  | 74 => ⟨S4x512x2048, .f32⟩
  | 75 => ⟨S4x512x2048, .f32⟩
  | 76 => ⟨S4x512x2048, .f32⟩
  | 77 => ⟨S4x512x2048, .f32⟩
  | 78 => ⟨S4x512x2048x1, .f32⟩
  | 79 => ⟨S4x512x2048x1, .f32⟩
  | 80 => ⟨S4x512x2048x1, .f32⟩
  | 81 => ⟨S4x512x2048x1, .f32⟩
  | 82 => ⟨S4x512x2048x1, .f32⟩
  | 83 => ⟨S4x512x2048x5, .f32⟩
  | 84 => ⟨S_, .f32⟩
  | 85 => ⟨S4x512x2048x5, .i1⟩
  | 86 => ⟨S_, .i1⟩
  | 87 => ⟨S4x512x2048, .i1⟩
  | 88 => ⟨S4x512x2048x1, .i1⟩
  | 89 => ⟨S_, .f32⟩
  | 90 => ⟨S_, .f32⟩
  | 91 => ⟨S4x512x2048x5, .i1⟩
  | 92 => ⟨S4x512x2048x5, .f32⟩
  | 93 => ⟨S4x512x2048x5, .f32⟩
  | 94 => ⟨S4x512x2048x5, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .i32⟩
  | 115 => ⟨S_, .i32⟩
  | 116 => ⟨S1, .i32⟩
  | 117 => ⟨S4x512x2048, .f32⟩
  | 118 => ⟨S1, .i32⟩
  | 119 => ⟨S4x512x2048, .f32⟩
  | 120 => ⟨S4x512x2048, .f32⟩
  | 121 => ⟨S_, .f32⟩
  | 122 => ⟨S4x512x2048, .f32⟩
  | 123 => ⟨S4x512x2048, .f32⟩
  | _ => ⟨S4x512x2048, .f32⟩

abbrev hbmTy (i : Nat) : BufTy := match i / 128 with
  | 0 => hbmTy0_0 i
  | 1 => hbmTy0_1 i
  | _ => ⟨S4x512x2048, .f32⟩

abbrev bufTy : (tb : Table) → Fin (tcTables nBuf tb) → BufTy
  | .hbm, ⟨i, _⟩ => hbmTy i
  | _, _ => ⟨S4x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_call0_v0 : Ref sig .tc := ⟨.hbm, 55, rfl⟩
abbrev main_call0_cst : Ref sig .tc := ⟨.hbm, 56, rfl⟩
abbrev main_call0_c : Ref sig .tc := ⟨.hbm, 57, rfl⟩
abbrev main_call0_v1_0 : Ref sig .tc := ⟨.hbm, 58, rfl⟩
abbrev main_v40 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_call2_v5 : Ref sig .tc := ⟨.hbm, 78, rfl⟩
abbrev main_call2_v6 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_call3_cst : Ref sig .tc := ⟨.hbm, 92, rfl⟩
abbrev main_call3_call0_v0 : Ref sig .tc := ⟨.hbm, 93, rfl⟩
abbrev main_call3_call0_c : Ref sig .tc := ⟨.hbm, 94, rfl⟩
abbrev main_call3_call0_v1 : Ref sig .tc := ⟨.hbm, 95, rfl⟩
abbrev main_call3_call0_v2 : Ref sig .tc := ⟨.hbm, 96, rfl⟩
abbrev main_call3_call0_cst : Ref sig .tc := ⟨.hbm, 97, rfl⟩
abbrev main_call3_call0_call0_v0 : Ref sig .tc := ⟨.hbm, 98, rfl⟩
abbrev main_call3_call0_call0_v1 : Ref sig .tc := ⟨.hbm, 99, rfl⟩
abbrev main_call3_call0_call0_v2 : Ref sig .tc := ⟨.hbm, 100, rfl⟩
abbrev main_call3_call0_v3 : Ref sig .tc := ⟨.hbm, 101, rfl⟩
abbrev main_call3_call0_v4 : Ref sig .tc := ⟨.hbm, 102, rfl⟩
abbrev main_call3_call0_cst_0 : Ref sig .tc := ⟨.hbm, 103, rfl⟩
abbrev main_call3_call0_cst_1 : Ref sig .tc := ⟨.hbm, 104, rfl⟩
abbrev main_call3_call0_v5 : Ref sig .tc := ⟨.hbm, 105, rfl⟩
abbrev main_call3_call0_v6 : Ref sig .tc := ⟨.hbm, 106, rfl⟩
abbrev main_call3_call0_v7 : Ref sig .tc := ⟨.hbm, 107, rfl⟩
abbrev main_call3_call0_v8 : Ref sig .tc := ⟨.hbm, 108, rfl⟩
abbrev main_call3_call0_v9 : Ref sig .tc := ⟨.hbm, 109, rfl⟩
abbrev main_call3_call0_cst_2 : Ref sig .tc := ⟨.hbm, 110, rfl⟩
abbrev main_call3_call0_v10 : Ref sig .tc := ⟨.hbm, 111, rfl⟩
abbrev main_call3_call0_cst_3 : Ref sig .tc := ⟨.hbm, 112, rfl⟩
abbrev main_call3_call0_cst_4 : Ref sig .tc := ⟨.hbm, 113, rfl⟩
abbrev main_call3_call0_v11 : Ref sig .tc := ⟨.hbm, 114, rfl⟩
abbrev main_call3_call0_cst_5 : Ref sig .tc := ⟨.hbm, 115, rfl⟩
abbrev main_call3_call0_v12 : Ref sig .tc := ⟨.hbm, 116, rfl⟩
abbrev main_call3_call0_cst_6 : Ref sig .tc := ⟨.hbm, 117, rfl⟩
abbrev main_call3_call0_cst_7 : Ref sig .tc := ⟨.hbm, 118, rfl⟩
abbrev main_call3_call0_v13 : Ref sig .tc := ⟨.hbm, 119, rfl⟩
abbrev main_call3_call0_cst_8 : Ref sig .tc := ⟨.hbm, 120, rfl⟩
abbrev main_call3_call0_v14 : Ref sig .tc := ⟨.hbm, 121, rfl⟩
abbrev main_call3_call0_v15 : Ref sig .tc := ⟨.hbm, 122, rfl⟩
abbrev main_call3_call0_v16 : Ref sig .tc := ⟨.hbm, 123, rfl⟩
abbrev main_call3_call0_v17 : Ref sig .tc := ⟨.hbm, 124, rfl⟩
abbrev main_call3_call0_v18 : Ref sig .tc := ⟨.hbm, 125, rfl⟩
abbrev main_call3_call0_v19 : Ref sig .tc := ⟨.hbm, 126, rfl⟩
abbrev main_call3_call0_v20 : Ref sig .tc := ⟨.hbm, 127, rfl⟩
abbrev main_call3_call0_v21 : Ref sig .tc := ⟨.hbm, 128, rfl⟩
abbrev main_call3_call0_cst_9 : Ref sig .tc := ⟨.hbm, 129, rfl⟩
abbrev main_call3_call0_v22 : Ref sig .tc := ⟨.hbm, 130, rfl⟩
abbrev main_v60 : Ref sig .tc := ⟨.hbm, 131, rfl⟩
abbrev main_c_9 : Ref sig .tc := ⟨.hbm, 132, rfl⟩
abbrev main_call4_v0 : Ref sig .tc := ⟨.hbm, 133, rfl⟩
abbrev main_call4_v1 : Ref sig .tc := ⟨.hbm, 134, rfl⟩
abbrev main_call4_v2 : Ref sig .tc := ⟨.hbm, 135, rfl⟩
abbrev main_call4_v3 : Ref sig .tc := ⟨.hbm, 136, rfl⟩
abbrev main_call4_v4 : Ref sig .tc := ⟨.hbm, 137, rfl⟩
abbrev main_call4_v5 : Ref sig .tc := ⟨.hbm, 138, rfl⟩
abbrev main_call4_v6 : Ref sig .tc := ⟨.hbm, 139, rfl⟩
abbrev main_v61 : Ref sig .tc := ⟨.hbm, 140, rfl⟩
abbrev main_v62 : Ref sig .tc := ⟨.hbm, 141, rfl⟩
abbrev main_v63 : Ref sig .tc := ⟨.hbm, 142, rfl⟩
abbrev main_v64 : Ref sig .tc := ⟨.hbm, 143, rfl⟩
abbrev main_v65 : Ref sig .tc := ⟨.hbm, 144, rfl⟩
abbrev main_v66 : Ref sig .tc := ⟨.hbm, 145, rfl⟩
abbrev main_v67 : Ref sig .tc := ⟨.hbm, 146, rfl⟩
abbrev main_v68 : Ref sig .tc := ⟨.hbm, 147, rfl⟩
abbrev main_v69 : Ref sig .tc := ⟨.hbm, 148, rfl⟩
abbrev main_v70 : Ref sig .tc := ⟨.hbm, 149, rfl⟩
abbrev main_v71 : Ref sig .tc := ⟨.hbm, 150, rfl⟩
abbrev main_v72 : Ref sig .tc := ⟨.hbm, 151, rfl⟩
abbrev main_call5_cst : Ref sig .tc := ⟨.hbm, 152, rfl⟩
abbrev main_call5_call0_v0 : Ref sig .tc := ⟨.hbm, 153, rfl⟩
abbrev main_call5_call0_c : Ref sig .tc := ⟨.hbm, 154, rfl⟩
abbrev main_call5_call0_v1 : Ref sig .tc := ⟨.hbm, 155, rfl⟩
abbrev main_call5_call0_v2 : Ref sig .tc := ⟨.hbm, 156, rfl⟩
abbrev main_call5_call0_cst : Ref sig .tc := ⟨.hbm, 157, rfl⟩
abbrev main_call5_call0_call0_v0 : Ref sig .tc := ⟨.hbm, 158, rfl⟩
abbrev main_call5_call0_call0_v1 : Ref sig .tc := ⟨.hbm, 159, rfl⟩
abbrev main_call5_call0_call0_v2 : Ref sig .tc := ⟨.hbm, 160, rfl⟩
abbrev main_call5_call0_v3 : Ref sig .tc := ⟨.hbm, 161, rfl⟩
abbrev main_call5_call0_v4 : Ref sig .tc := ⟨.hbm, 162, rfl⟩
abbrev main_call5_call0_cst_0 : Ref sig .tc := ⟨.hbm, 163, rfl⟩
abbrev main_call5_call0_cst_1 : Ref sig .tc := ⟨.hbm, 164, rfl⟩
abbrev main_call5_call0_v5 : Ref sig .tc := ⟨.hbm, 165, rfl⟩
abbrev main_call5_call0_v6 : Ref sig .tc := ⟨.hbm, 166, rfl⟩
abbrev main_call5_call0_v7 : Ref sig .tc := ⟨.hbm, 167, rfl⟩
abbrev main_call5_call0_v8 : Ref sig .tc := ⟨.hbm, 168, rfl⟩
abbrev main_call5_call0_v9 : Ref sig .tc := ⟨.hbm, 169, rfl⟩
abbrev main_call5_call0_cst_2 : Ref sig .tc := ⟨.hbm, 170, rfl⟩
abbrev main_call5_call0_v10 : Ref sig .tc := ⟨.hbm, 171, rfl⟩
abbrev main_call5_call0_cst_3 : Ref sig .tc := ⟨.hbm, 172, rfl⟩
abbrev main_call5_call0_cst_4 : Ref sig .tc := ⟨.hbm, 173, rfl⟩
abbrev main_call5_call0_v11 : Ref sig .tc := ⟨.hbm, 174, rfl⟩
abbrev main_call5_call0_cst_5 : Ref sig .tc := ⟨.hbm, 175, rfl⟩
abbrev main_call5_call0_v12 : Ref sig .tc := ⟨.hbm, 176, rfl⟩
abbrev main_call5_call0_cst_6 : Ref sig .tc := ⟨.hbm, 177, rfl⟩
abbrev main_call5_call0_cst_7 : Ref sig .tc := ⟨.hbm, 178, rfl⟩
abbrev main_call5_call0_v13 : Ref sig .tc := ⟨.hbm, 179, rfl⟩
abbrev main_call5_call0_cst_8 : Ref sig .tc := ⟨.hbm, 180, rfl⟩
abbrev main_call5_call0_v14 : Ref sig .tc := ⟨.hbm, 181, rfl⟩
abbrev main_call5_call0_v15 : Ref sig .tc := ⟨.hbm, 182, rfl⟩
abbrev main_call5_call0_v16 : Ref sig .tc := ⟨.hbm, 183, rfl⟩
abbrev main_call5_call0_v17 : Ref sig .tc := ⟨.hbm, 184, rfl⟩
abbrev main_call5_call0_v18 : Ref sig .tc := ⟨.hbm, 185, rfl⟩
abbrev main_call5_call0_v19 : Ref sig .tc := ⟨.hbm, 186, rfl⟩
abbrev main_call5_call0_v20 : Ref sig .tc := ⟨.hbm, 187, rfl⟩
abbrev main_call5_call0_v21 : Ref sig .tc := ⟨.hbm, 188, rfl⟩
abbrev main_call5_call0_cst_9 : Ref sig .tc := ⟨.hbm, 189, rfl⟩
abbrev main_call5_call0_v22 : Ref sig .tc := ⟨.hbm, 190, rfl⟩
abbrev main_v73 : Ref sig .tc := ⟨.hbm, 191, rfl⟩
abbrev main_c_10 : Ref sig .tc := ⟨.hbm, 192, rfl⟩
abbrev main_call6_v0 : Ref sig .tc := ⟨.hbm, 193, rfl⟩
abbrev main_call6_v1 : Ref sig .tc := ⟨.hbm, 194, rfl⟩
abbrev main_call6_v2 : Ref sig .tc := ⟨.hbm, 195, rfl⟩
abbrev main_call6_v3 : Ref sig .tc := ⟨.hbm, 196, rfl⟩
abbrev main_call6_v4 : Ref sig .tc := ⟨.hbm, 197, rfl⟩
abbrev main_call6_v5 : Ref sig .tc := ⟨.hbm, 198, rfl⟩
abbrev main_call6_v6 : Ref sig .tc := ⟨.hbm, 199, rfl⟩
abbrev main_v74 : Ref sig .tc := ⟨.hbm, 200, rfl⟩
abbrev main_v75 : Ref sig .tc := ⟨.hbm, 201, rfl⟩
abbrev main_v76 : Ref sig .tc := ⟨.hbm, 202, rfl⟩
abbrev main_v77 : Ref sig .tc := ⟨.hbm, 203, rfl⟩
abbrev main_v78 : Ref sig .tc := ⟨.hbm, 204, rfl⟩
abbrev main_v79 : Ref sig .tc := ⟨.hbm, 205, rfl⟩
abbrev main_v80 : Ref sig .tc := ⟨.hbm, 206, rfl⟩
abbrev main_v81 : Ref sig .tc := ⟨.hbm, 207, rfl⟩
abbrev main_v82 : Ref sig .tc := ⟨.hbm, 208, rfl⟩
abbrev main_v83 : Ref sig .tc := ⟨.hbm, 209, rfl⟩
abbrev main_v84 : Ref sig .tc := ⟨.hbm, 210, rfl⟩
abbrev main_v85 : Ref sig .tc := ⟨.hbm, 211, rfl⟩
abbrev main_call7_cst : Ref sig .tc := ⟨.hbm, 212, rfl⟩
abbrev main_call7_call0_v0 : Ref sig .tc := ⟨.hbm, 213, rfl⟩
abbrev main_call7_call0_c : Ref sig .tc := ⟨.hbm, 214, rfl⟩
abbrev main_call7_call0_v1 : Ref sig .tc := ⟨.hbm, 215, rfl⟩
abbrev main_call7_call0_v2 : Ref sig .tc := ⟨.hbm, 216, rfl⟩
abbrev main_call7_call0_cst : Ref sig .tc := ⟨.hbm, 217, rfl⟩
abbrev main_call7_call0_call0_v0 : Ref sig .tc := ⟨.hbm, 218, rfl⟩
abbrev main_call7_call0_call0_v1 : Ref sig .tc := ⟨.hbm, 219, rfl⟩
abbrev main_call7_call0_call0_v2 : Ref sig .tc := ⟨.hbm, 220, rfl⟩
abbrev main_call7_call0_v3 : Ref sig .tc := ⟨.hbm, 221, rfl⟩
abbrev main_call7_call0_v4 : Ref sig .tc := ⟨.hbm, 222, rfl⟩
abbrev main_call7_call0_cst_0 : Ref sig .tc := ⟨.hbm, 223, rfl⟩
abbrev main_call7_call0_cst_1 : Ref sig .tc := ⟨.hbm, 224, rfl⟩
abbrev main_call7_call0_v5 : Ref sig .tc := ⟨.hbm, 225, rfl⟩
abbrev main_call7_call0_v6 : Ref sig .tc := ⟨.hbm, 226, rfl⟩
abbrev main_call7_call0_v7 : Ref sig .tc := ⟨.hbm, 227, rfl⟩
abbrev main_call7_call0_v8 : Ref sig .tc := ⟨.hbm, 228, rfl⟩
abbrev main_call7_call0_v9 : Ref sig .tc := ⟨.hbm, 229, rfl⟩
abbrev main_call7_call0_cst_2 : Ref sig .tc := ⟨.hbm, 230, rfl⟩
abbrev main_call7_call0_v10 : Ref sig .tc := ⟨.hbm, 231, rfl⟩
abbrev main_call7_call0_cst_3 : Ref sig .tc := ⟨.hbm, 232, rfl⟩
abbrev main_call7_call0_cst_4 : Ref sig .tc := ⟨.hbm, 233, rfl⟩
abbrev main_call7_call0_v11 : Ref sig .tc := ⟨.hbm, 234, rfl⟩
abbrev main_call7_call0_cst_5 : Ref sig .tc := ⟨.hbm, 235, rfl⟩
abbrev main_call7_call0_v12 : Ref sig .tc := ⟨.hbm, 236, rfl⟩
abbrev main_call7_call0_cst_6 : Ref sig .tc := ⟨.hbm, 237, rfl⟩
abbrev main_call7_call0_cst_7 : Ref sig .tc := ⟨.hbm, 238, rfl⟩
abbrev main_call7_call0_v13 : Ref sig .tc := ⟨.hbm, 239, rfl⟩
abbrev main_call7_call0_cst_8 : Ref sig .tc := ⟨.hbm, 240, rfl⟩
abbrev main_call7_call0_v14 : Ref sig .tc := ⟨.hbm, 241, rfl⟩
abbrev main_call7_call0_v15 : Ref sig .tc := ⟨.hbm, 242, rfl⟩
abbrev main_call7_call0_v16 : Ref sig .tc := ⟨.hbm, 243, rfl⟩
abbrev main_call7_call0_v17 : Ref sig .tc := ⟨.hbm, 244, rfl⟩
abbrev main_call7_call0_v18 : Ref sig .tc := ⟨.hbm, 245, rfl⟩
abbrev main_call7_call0_v19 : Ref sig .tc := ⟨.hbm, 246, rfl⟩
abbrev main_call7_call0_v20 : Ref sig .tc := ⟨.hbm, 247, rfl⟩
abbrev main_call7_call0_v21 : Ref sig .tc := ⟨.hbm, 248, rfl⟩
abbrev main_call7_call0_cst_9 : Ref sig .tc := ⟨.hbm, 249, rfl⟩
abbrev main_call7_call0_v22 : Ref sig .tc := ⟨.hbm, 250, rfl⟩
abbrev main_v86 : Ref sig .tc := ⟨.hbm, 251, rfl⟩

abbrev nD : Nat := 1
abbrev τ : Topo := Topo.v7x

variable {F : FTy → Type} [FloatOps F]
-- ==== Proof.Ref.Ops.lean ====
module

public import proofs.«01_k».proof.Proof.Gen.ReferenceIdeal
public import Idealize.ShloMosaic.Lib.StableHlo.Run

/-!
The reference as a list of host operations, cut into stages: the linear layer, a softmax, the
noisy logits, a softmax again, the argmax, its one-hot form, the straight-through selection of the
spectrum, and three median pools of one padding, one stack of shifted copies and one median each.
The stages of a called function are stated once, over any call's buffers.
-/

@[expose] public section

set_option Elab.async false

noncomputable section

namespace Cert.Ref

open Cert.ReferenceIdeal Cert.ReferenceIdeal.Gen Idealize.ShloMosaic Idealize.ShloMosaic.TcCoe Idealize.SL.Sem Idealize.ShloMosaic.StableHlo

variable {F : FTy → Type} [FloatOps F]

/-! ## Operations whose operands are packed, by name -/

/-- Two columns and the array, side by side. -/
def cat2050 (a : FVec F S4x512x2 .f32) (b : FVec F S4x512x2048 .f32) : FVec F S4x512x2050 .f32 :=
  concatenate S4x512x2050 2 [⟨S4x512x2, a⟩, ⟨S4x512x2048, b⟩] concatenates_S4x512x2_S4x512x2048_S4x512x2050_d2

/-- The widened array and two more columns, side by side. -/
def cat2052 (a : FVec F S4x512x2050 .f32) (b : FVec F S4x512x2 .f32) : FVec F S4x512x2052 .f32 :=
  concatenate S4x512x2052 2 [⟨S4x512x2050, a⟩, ⟨S4x512x2, b⟩] concatenates_S4x512x2050_S4x512x2_S4x512x2052_d2

/-- Five arrays stacked along a new last axis. -/
def cat5 (a b c d e : FVec F S4x512x2048x1 .f32) : FVec F S4x512x2048x5 .f32 :=
  concatenate S4x512x2048x5 3 [⟨S4x512x2048x1, a⟩, ⟨S4x512x2048x1, b⟩, ⟨S4x512x2048x1, c⟩, ⟨S4x512x2048x1, d⟩, ⟨S4x512x2048x1, e⟩]
    concatenates_S4x512x2048x1_S4x512x2048x1_S4x512x2048x1_S4x512x2048x1_S4x512x2048x1_S4x512x2048x5_d3

/-- The values that the argmax's reduction leaves. -/
def argVals (x : FVec F S4x2048x2 .f32) (y : IVec S4x2048x2 32) (u : FVec F S_ .f32) (v : IVec S_ 32) : FVec F S4x2048 .f32 :=
  fun j => (Host.argReduce reducer_argmax_f32_i32 x y u v reducesTo_S4x2048x2_S4x2048_d2 h_S_ j).1

/-- The positions that the argmax's reduction leaves. -/
def argInds (x : FVec F S4x2048x2 .f32) (y : IVec S4x2048x2 32) (u : FVec F S_ .f32) (v : IVec S_ 32) : IVec S4x2048 32 :=
  fun j => (Host.argReduce reducer_argmax_f32_i32 x y u v reducesTo_S4x2048x2_S4x2048_d2 h_S_ j).2

/-! ## The stages -/

/-- The linear layer, its bias, and the division by the temperature scale: `main_v5`. -/
def linOps : List (HloOp τ sig (Elt F)) := [
  binary main_arg0 main_arg3 main_v0 ((fun l r => Host.dotGeneral dot_S4x512x2048_S2x512_S4x2048x2_1_1_02_0_n_n none l r) : (⟨S4x512x2048, .f32⟩ : BufTy).Contents (Elt F) → (⟨S2x512, .f32⟩ : BufTy).Contents (Elt F) → (⟨S4x2048x2, .f32⟩ : BufTy).Contents (Elt F)),
  unary main_arg4 main_v1 (broadcastInDim S1x1x2 ![2] bcast_S2_S1x1x2_2 : (⟨S2, .f32⟩ : BufTy).Contents (Elt F) → (⟨S1x1x2, .f32⟩ : BufTy).Contents (Elt F)),
  unary main_v1 main_v2 (broadcastInDim S4x2048x2 ![0, 1, 2] bcast_S1x1x2_S4x2048x2_0_1_2 : (⟨S1x1x2, .f32⟩ : BufTy).Contents (Elt F) → (⟨S4x2048x2, .f32⟩ : BufTy).Contents (Elt F)),
  binary main_v0 main_v2 main_v3 (addf : (⟨S4x2048x2, .f32⟩ : BufTy).Contents (Elt F) → (⟨S4x2048x2, .f32⟩ : BufTy).Contents (Elt F) → (⟨S4x2048x2, .f32⟩ : BufTy).Contents (Elt F)),
  nullary main_cst (constant S_ .f32 0x41200000#32),
  unary main_cst main_v4 (broadcastInDim S4x2048x2 ![] bcast_S_S4x2048x2 : (⟨S_, .f32⟩ : BufTy).Contents (Elt F) → (⟨S4x2048x2, .f32⟩ : BufTy).Contents (Elt F)),
  binary main_v3 main_v4 main_v5 (Host.divf : (⟨S4x2048x2, .f32⟩ : BufTy).Contents (Elt F) → (⟨S4x2048x2, .f32⟩ : BufTy).Contents (Elt F) → (⟨S4x2048x2, .f32⟩ : BufTy).Contents (Elt F))]

/-- The buffers that `linOps` writes. -/
abbrev linOpsW : List (Ref sig .tc) := [main_v0, main_v1, main_v2, main_v3, main_cst, main_v4, main_v5]

theorem linOps_writes : (linOps : List (HloOp τ sig (Elt F))).Forall fun op => op.writes ⊆ ((linOpsW).map (Proc.devRef (τ := τ) .tc)).toFinset :=
  forall_writes_sub_of_map rfl

theorem linOps_sub : (linOps : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub ..⟩

theorem linOps_fresh : (linOps : List (HloOp τ sig (Elt F))).Forall fun op => op.fresh = ∅ :=
  forall_fresh_of_map rfl

/-- The softmax over the two classes, into the posterior `main_v16`. -/
def softOps : List (HloOp τ sig (Elt F)) := [
  nullary main_cst_0 (constant S_ .f32 0xFF800000#32),
  binary main_v5 main_cst_0 main_v6 ((fun x v => Host.reduce FloatOps.maximumf x v reducesTo_S4x2048x2_S4x2048_d2 h_S_) : (⟨S4x2048x2, .f32⟩ : BufTy).Contents (Elt F) → (⟨S_, .f32⟩ : BufTy).Contents (Elt F) → (⟨S4x2048, .f32⟩ : BufTy).Contents (Elt F)),
  nullary main_cst_1 (constant S_ .f32 0xFF800000#32),
  unary main_cst_1 main_v7 (broadcastInDim S4x2048 ![] bcast_S_S4x2048 : (⟨S_, .f32⟩ : BufTy).Contents (Elt F) → (⟨S4x2048, .f32⟩ : BufTy).Contents (Elt F)),
  binary main_v7 main_v6 main_v8 (maximumf : (⟨S4x2048, .f32⟩ : BufTy).Contents (Elt F) → (⟨S4x2048, .f32⟩ : BufTy).Contents (Elt F) → (⟨S4x2048, .f32⟩ : BufTy).Contents (Elt F)),
  unary main_v8 main_v9 (broadcastInDim S4x2048x1 ![0, 1] bcast_S4x2048_S4x2048x1_0_1 : (⟨S4x2048, .f32⟩ : BufTy).Contents (Elt F) → (⟨S4x2048x1, .f32⟩ : BufTy).Contents (Elt F)),
  unary main_v9 main_v10 (broadcastInDim S4x2048x2 ![0, 1, 2] bcast_S4x2048x1_S4x2048x2_0_1_2 : (⟨S4x2048x1, .f32⟩ : BufTy).Contents (Elt F) → (⟨S4x2048x2, .f32⟩ : BufTy).Contents (Elt F)),
  binary main_v5 main_v10 main_v11 (subf : (⟨S4x2048x2, .f32⟩ : BufTy).Contents (Elt F) → (⟨S4x2048x2, .f32⟩ : BufTy).Contents (Elt F) → (⟨S4x2048x2, .f32⟩ : BufTy).Contents (Elt F)),
  unary main_v11 main_v12 (Host.exp : (⟨S4x2048x2, .f32⟩ : BufTy).Contents (Elt F) → (⟨S4x2048x2, .f32⟩ : BufTy).Contents (Elt F)),
  nullary main_cst_2 (constant S_ .f32 0x00000000#32),
  binary main_v12 main_cst_2 main_v13 ((fun x v => Host.reduceAdd x v reducesTo_S4x2048x2_S4x2048_d2 h_S_) : (⟨S4x2048x2, .f32⟩ : BufTy).Contents (Elt F) → (⟨S_, .f32⟩ : BufTy).Contents (Elt F) → (⟨S4x2048, .f32⟩ : BufTy).Contents (Elt F)),
  unary main_v13 main_v14 (broadcastInDim S4x2048x1 ![0, 1] bcast_S4x2048_S4x2048x1_0_1 : (⟨S4x2048, .f32⟩ : BufTy).Contents (Elt F) → (⟨S4x2048x1, .f32⟩ : BufTy).Contents (Elt F)),
  unary main_v14 main_v15 (broadcastInDim S4x2048x2 ![0, 1, 2] bcast_S4x2048x1_S4x2048x2_0_1_2 : (⟨S4x2048x1, .f32⟩ : BufTy).Contents (Elt F) → (⟨S4x2048x2, .f32⟩ : BufTy).Contents (Elt F)),
  binary main_v12 main_v15 main_v16 (Host.divf : (⟨S4x2048x2, .f32⟩ : BufTy).Contents (Elt F) → (⟨S4x2048x2, .f32⟩ : BufTy).Contents (Elt F) → (⟨S4x2048x2, .f32⟩ : BufTy).Contents (Elt F))]

/-- The buffers that `softOps` writes. -/
abbrev softOpsW : List (Ref sig .tc) := [main_cst_0, main_v6, main_cst_1, main_v7, main_v8, main_v9, main_v10, main_v11, main_v12, main_cst_2, main_v13, main_v14, main_v15, main_v16]

theorem softOps_writes : (softOps : List (HloOp τ sig (Elt F))).Forall fun op => op.writes ⊆ ((softOpsW).map (Proc.devRef (τ := τ) .tc)).toFinset :=
  forall_writes_sub_of_map rfl

theorem softOps_sub : (softOps : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

theorem softOps_fresh : (softOps : List (HloOp τ sig (Elt F))).Forall fun op => op.fresh = ∅ :=
  forall_fresh_of_map rfl

/-- The noisy logits over the temperature: `main_v28`. -/
def logitOps : List (HloOp τ sig (Elt F)) := [
  unary main_v16 main_v17 (Host.log : (⟨S4x2048x2, .f32⟩ : BufTy).Contents (Elt F) → (⟨S4x2048x2, .f32⟩ : BufTy).Contents (Elt F)),
  nullary main_cst_3 (constant S_ .f32 0x1E3CE508#32),
  unary main_cst_3 main_v18 (broadcastInDim S4x2048x2 ![] bcast_S_S4x2048x2 : (⟨S_, .f32⟩ : BufTy).Contents (Elt F) → (⟨S4x2048x2, .f32⟩ : BufTy).Contents (Elt F)),
  binary main_arg2 main_v18 main_v19 (addf : (⟨S4x2048x2, .f32⟩ : BufTy).Contents (Elt F) → (⟨S4x2048x2, .f32⟩ : BufTy).Contents (Elt F) → (⟨S4x2048x2, .f32⟩ : BufTy).Contents (Elt F)),
  unary main_v19 main_v20 (Host.log : (⟨S4x2048x2, .f32⟩ : BufTy).Contents (Elt F) → (⟨S4x2048x2, .f32⟩ : BufTy).Contents (Elt F)),
  unary main_v20 main_v21 (Host.negf : (⟨S4x2048x2, .f32⟩ : BufTy).Contents (Elt F) → (⟨S4x2048x2, .f32⟩ : BufTy).Contents (Elt F)),
  nullary main_cst_4 (constant S_ .f32 0x1E3CE508#32),
  unary main_cst_4 main_v22 (broadcastInDim S4x2048x2 ![] bcast_S_S4x2048x2 : (⟨S_, .f32⟩ : BufTy).Contents (Elt F) → (⟨S4x2048x2, .f32⟩ : BufTy).Contents (Elt F)),
  binary main_v21 main_v22 main_v23 (addf : (⟨S4x2048x2, .f32⟩ : BufTy).Contents (Elt F) → (⟨S4x2048x2, .f32⟩ : BufTy).Contents (Elt F) → (⟨S4x2048x2, .f32⟩ : BufTy).Contents (Elt F)),
  unary main_v23 main_v24 (Host.log : (⟨S4x2048x2, .f32⟩ : BufTy).Contents (Elt F) → (⟨S4x2048x2, .f32⟩ : BufTy).Contents (Elt F)),
  unary main_v24 main_v25 (Host.negf : (⟨S4x2048x2, .f32⟩ : BufTy).Contents (Elt F) → (⟨S4x2048x2, .f32⟩ : BufTy).Contents (Elt F)),
  binary main_v17 main_v25 main_v26 (addf : (⟨S4x2048x2, .f32⟩ : BufTy).Contents (Elt F) → (⟨S4x2048x2, .f32⟩ : BufTy).Contents (Elt F) → (⟨S4x2048x2, .f32⟩ : BufTy).Contents (Elt F)),
  nullary main_cst_5 (constant S_ .f32 0x3F4CCCCD#32),
  unary main_cst_5 main_v27 (broadcastInDim S4x2048x2 ![] bcast_S_S4x2048x2 : (⟨S_, .f32⟩ : BufTy).Contents (Elt F) → (⟨S4x2048x2, .f32⟩ : BufTy).Contents (Elt F)),
  binary main_v26 main_v27 main_v28 (Host.divf : (⟨S4x2048x2, .f32⟩ : BufTy).Contents (Elt F) → (⟨S4x2048x2, .f32⟩ : BufTy).Contents (Elt F) → (⟨S4x2048x2, .f32⟩ : BufTy).Contents (Elt F))]

/-- The buffers that `logitOps` writes. -/
abbrev logitOpsW : List (Ref sig .tc) := [main_v17, main_cst_3, main_v18, main_v19, main_v20, main_v21, main_cst_4, main_v22, main_v23, main_v24, main_v25, main_v26, main_cst_5, main_v27, main_v28]

theorem logitOps_writes : (logitOps : List (HloOp τ sig (Elt F))).Forall fun op => op.writes ⊆ ((logitOpsW).map (Proc.devRef (τ := τ) .tc)).toFinset :=
  forall_writes_sub_of_map rfl

theorem logitOps_sub : (logitOps : List (HloOp τ sig (Elt F))).Forall fun op => op.bufs ⊆ tcRefs τ sig :=
  ⟨unary_bufs_sub .., nullary_bufs_sub .., unary_bufs_sub .., binary_bufs_sub .., unary_bufs_sub .., unary_bufs_sub .., nullary_bufs_sub .., unary_bufs_sub .., binary_bufs_sub .., unary_bufs_sub .., unary_bufs_sub .., binary_bufs_sub .., nullary_bufs_sub .., unary_bufs_sub .., binary_bufs_sub ..⟩

theorem logitOps_fresh : (logitOps : List (HloOp τ sig (Elt F))).Forall fun op => op.fresh = ∅ :=
  forall_fresh_of_map rfl

/-- The softmax of the noisy logits: `main_v39`. -/
def soft2Ops : List (HloOp τ sig (Elt F)) := [
  nullary main_cst_6 (constant S_ .f32 0xFF800000#32),
  binary main_v28 main_cst_6 main_v29 ((fun x v => Host.reduce FloatOps.maximumf x v reducesTo_S4x2048x2_S4x2048_d2 h_S_) : (⟨S4x2048x2, .f32⟩ : BufTy).Contents (Elt F) → (⟨S_, .f32⟩ : BufTy).Contents (Elt F) → (⟨S4x2048, .f32⟩ : BufTy).Contents (Elt F)),
  nullary main_cst_7 (constant S_ .f32 0xFF800000#32),
  unary main_cst_7 main_v30 (broadcastInDim S4x2048 ![] bcast_S_S4x2048 : (⟨S_, .f32⟩ : BufTy).Contents (Elt F) → (⟨S4x2048, .f32⟩ : BufTy).Contents (Elt F)),
  binary main_v30 main_v29 main_v31 (maximumf : (⟨S4x2048, .f32⟩ : BufTy).Contents (Elt F) → (⟨S4x2048, .f32⟩ : BufTy).Contents (Elt F) → (⟨S4x2048, .f32⟩ : BufTy).Contents (Elt F)),
  unary main_v31 main_v32 (broadcastInDim S4x2048x1 ![0, 1] bcast_S4x2048_S4x2048x1_0_1 : (⟨S4x2048, .f32⟩ : BufTy).Contents (Elt F) → (⟨S4x2048x1, .f32⟩ : BufTy).Contents (Elt F)),
  unary main_v32 main_v33 (broadcastInDim S4x2048x2 ![0, 1, 2] bcast_S4x2048x1_S4x2048x2_0_1_2 : (⟨S4x2048x1, .f32⟩ : BufTy).Contents (Elt F) → (⟨S4x2048x2, .f32⟩ : BufTy).Contents (Elt F)),
  binary main_v28 main_v33 main_v34 (subf : (⟨S4x2048x2, .f32⟩ : BufTy).Contents (Elt F) → (⟨S4x2048x2, .f32⟩ : BufTy).Contents (Elt F) → (⟨S4x2048x2, .f32⟩ : BufTy).Contents (Elt F)),
  unary main_v34 main_v35 (Host.exp : (⟨S4x2048x2, .f32⟩ : BufTy).Contents (Elt F) → (⟨S4x2048x2, .f32⟩ : BufTy).Contents (Elt F)),
  nullary main_cst_8 (constant S_ .f32 0x00000000#32),
  binary main_v35 main_cst_8 main_v36 ((fun x v => Host.reduceAdd x v reducesTo_S4x2048x2_S4x2048_d2 h_S_) : (⟨S4x2048x2, .f32⟩ : BufTy).Contents (Elt F) → (⟨S_, .f32⟩ : BufTy).Contents (Elt F) → (⟨S4x2048, .f32⟩ : BufTy).Contents (Elt F)),
  unary main_v36 main_v37 (broadcastInDim S4x2048x1 ![0, 1] bcast_S4x2048_S4x2048x1_0_1 : (⟨S4x2048, .f32⟩ : BufTy).Contents (Elt F) → (⟨S4x2048x1, .f32⟩ : BufTy).Contents (Elt F)),
  unary main_v37 main_v38 (broadcastInDim S4x2048x2 ![0, 1, 2] bcast_S4x2048x1_S4x2048x2_0_1_2 : (⟨S4x2048x1, .f32⟩ : BufTy).Contents (Elt F) → (⟨S4x2048x2, .f32⟩ : BufTy).Contents (Elt F)),
  binary main_v35 main_v38 main_v39 (Host.divf : (⟨S4x2048x2, .f32⟩ : BufTy).Contents (Elt F) → (⟨S4x2048x2, .f32⟩ : BufTy).Contents (Elt F) → (⟨S4x2048x2, .f32⟩ : BufTy).Contents (Elt F))]

/-- The buffers that `soft2Ops` writes. -/
abbrev soft2OpsW : List (Ref sig .tc) := [main_cst_6, main_v29, main_cst_7, main_v30, main_v31, main_v32, main_v33, main_v34, main_v35, main_cst_8, main_v36, main_v37, main_v38, main_v39]

theorem soft2Ops_writes : (soft2Ops : List (HloOp τ sig (Elt F))).Forall fun op => op.writes ⊆ ((soft2OpsW).map (Proc.devRef (τ := τ) .tc)).toFinset :=
  forall_writes_sub_of_map rfl

theorem soft2Ops_sub : (soft2Ops : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

theorem soft2Ops_fresh : (soft2Ops : List (HloOp τ sig (Elt F))).Forall fun op => op.fresh = ∅ :=
  forall_fresh_of_map rfl

/-- The argmax over the two classes. -/
def argOps (arg0 : TRef sig ⟨S4x2048x2, .f32⟩) (φ : fn_argmax.Bufs) : List (HloOp τ sig (Elt F)) := [
  TRef.nullary φ.v0 (iotaInDim S4x2048x2 32 2),
  TRef.nullary φ.cst (constant S_ .f32 0xFF800000#32),
  TRef.nullary φ.c (constantI S_ 32 0#32),
  TRef.quaternary arg0 φ.v0 φ.cst φ.c φ.v1_0 argVals,
  TRef.quaternary arg0 φ.v0 φ.cst φ.c φ.v1_1 argInds]

/-- The buffers that `argOps` writes. -/
abbrev argOpsW (φ : fn_argmax.Bufs) : List (Ref sig .tc) := [φ.v0.ref, φ.cst.ref, φ.c.ref, φ.v1_0.ref, φ.v1_1.ref]

theorem argOps_writes (arg0 : TRef sig ⟨S4x2048x2, .f32⟩) (φ : fn_argmax.Bufs) : (argOps arg0 φ : List (HloOp τ sig (Elt F))).Forall fun op => op.writes ⊆ ((argOpsW φ).map (Proc.devRef (τ := τ) .tc)).toFinset :=
  forall_writes_sub_of_map rfl

theorem argOps_sub (arg0 : TRef sig ⟨S4x2048x2, .f32⟩) (φ : fn_argmax.Bufs) : (argOps arg0 φ : List (HloOp τ sig (Elt F))).Forall fun op => op.bufs ⊆ tcRefs τ sig :=
  ⟨nullary_bufs_sub .., nullary_bufs_sub .., nullary_bufs_sub .., quaternary_bufs_sub .., quaternary_bufs_sub ..⟩

theorem argOps_fresh (arg0 : TRef sig ⟨S4x2048x2, .f32⟩) (φ : fn_argmax.Bufs) : (argOps arg0 φ : List (HloOp τ sig (Elt F))).Forall fun op => op.fresh = ∅ :=
  forall_fresh_of_map rfl

/-- The one-hot form of a class index. -/
def hotOps (arg0 : TRef sig ⟨S4x2048, .i32⟩) (φ : fn_one_hot.Bufs) : List (HloOp τ sig (Elt F)) := [
  TRef.unary arg0 φ.v0 (broadcastInDim S4x2048x1 ![0, 1] bcast_S4x2048_S4x2048x1_0_1),
  TRef.nullary φ.v1 (iotaInDim S1x1x2 32 2),
  TRef.unary φ.v0 φ.v2 (broadcastInDim S4x2048x2 ![0, 1, 2] bcast_S4x2048x1_S4x2048x2_0_1_2),
  TRef.unary φ.v1 φ.v3 (broadcastInDim S4x2048x2 ![0, 1, 2] bcast_S1x1x2_S4x2048x2_0_1_2),
  TRef.binary φ.v2 φ.v3 φ.v4 (cmpi .eq),
  TRef.unary φ.v4 φ.v5 (uitofp .f32)]

/-- The buffers that `hotOps` writes. -/
abbrev hotOpsW (φ : fn_one_hot.Bufs) : List (Ref sig .tc) := [φ.v0.ref, φ.v1.ref, φ.v2.ref, φ.v3.ref, φ.v4.ref, φ.v5.ref]

theorem hotOps_writes (arg0 : TRef sig ⟨S4x2048, .i32⟩) (φ : fn_one_hot.Bufs) : (hotOps arg0 φ : List (HloOp τ sig (Elt F))).Forall fun op => op.writes ⊆ ((hotOpsW φ).map (Proc.devRef (τ := τ) .tc)).toFinset :=
  forall_writes_sub_of_map rfl

theorem hotOps_sub (arg0 : TRef sig ⟨S4x2048, .i32⟩) (φ : fn_one_hot.Bufs) : (hotOps arg0 φ : List (HloOp τ sig (Elt F))).Forall fun op => op.bufs ⊆ tcRefs τ sig :=
  ⟨unary_bufs_sub .., nullary_bufs_sub .., unary_bufs_sub .., unary_bufs_sub .., binary_bufs_sub .., unary_bufs_sub ..⟩

theorem hotOps_fresh (arg0 : TRef sig ⟨S4x2048, .i32⟩) (φ : fn_one_hot.Bufs) : (hotOps arg0 φ : List (HloOp τ sig (Elt F))).Forall fun op => op.fresh = ∅ :=
  forall_fresh_of_map rfl

/-- The straight-through selector times the spectrum: `main_v47`. -/
def selOps : List (HloOp τ sig (Elt F)) := [
  binary main_v41 main_v39 main_v42 (subf : (⟨S4x2048x2, .f32⟩ : BufTy).Contents (Elt F) → (⟨S4x2048x2, .f32⟩ : BufTy).Contents (Elt F) → (⟨S4x2048x2, .f32⟩ : BufTy).Contents (Elt F)),
  binary main_v42 main_v39 main_v43 (addf : (⟨S4x2048x2, .f32⟩ : BufTy).Contents (Elt F) → (⟨S4x2048x2, .f32⟩ : BufTy).Contents (Elt F) → (⟨S4x2048x2, .f32⟩ : BufTy).Contents (Elt F)),
  unary main_v43 main_v44 ((extractStridedSlice S4x2048x1 ![0, 0, 1] · slices_S4x2048x2_S4x2048x1_0_0_1) : (⟨S4x2048x2, .f32⟩ : BufTy).Contents (Elt F) → (⟨S4x2048x1, .f32⟩ : BufTy).Contents (Elt F)),
  unary main_v44 main_v45 ((transpose S4x1x2048 [0, 2, 1] · transposes_S4x2048x1_S4x1x2048_0_2_1) : (⟨S4x2048x1, .f32⟩ : BufTy).Contents (Elt F) → (⟨S4x1x2048, .f32⟩ : BufTy).Contents (Elt F)),
  unary main_v45 main_v46 (broadcastInDim S4x512x2048 ![0, 1, 2] bcast_S4x1x2048_S4x512x2048_0_1_2 : (⟨S4x1x2048, .f32⟩ : BufTy).Contents (Elt F) → (⟨S4x512x2048, .f32⟩ : BufTy).Contents (Elt F)),
  binary main_v46 main_arg1 main_v47 (mulf : (⟨S4x512x2048, .f32⟩ : BufTy).Contents (Elt F) → (⟨S4x512x2048, .f32⟩ : BufTy).Contents (Elt F) → (⟨S4x512x2048, .f32⟩ : BufTy).Contents (Elt F)),
  nullary main_c (constantI S_ 32 0#32)]

/-- The buffers that `selOps` writes. -/
abbrev selOpsW : List (Ref sig .tc) := [main_v42, main_v43, main_v44, main_v45, main_v46, main_v47, main_c]

theorem selOps_writes : (selOps : List (HloOp τ sig (Elt F))).Forall fun op => op.writes ⊆ ((selOpsW).map (Proc.devRef (τ := τ) .tc)).toFinset :=
  forall_writes_sub_of_map rfl

theorem selOps_sub : (selOps : List (HloOp τ sig (Elt F))).Forall fun op => op.bufs ⊆ tcRefs τ sig :=
  ⟨binary_bufs_sub .., binary_bufs_sub .., unary_bufs_sub .., unary_bufs_sub .., unary_bufs_sub .., binary_bufs_sub .., nullary_bufs_sub ..⟩

theorem selOps_fresh : (selOps : List (HloOp τ sig (Elt F))).Forall fun op => op.fresh = ∅ :=
  forall_fresh_of_map rfl

/-- The reflecting pad of two columns on either side. -/
def padOps (arg0 : TRef sig ⟨S4x512x2048, .f32⟩) (φ : fn_pad.Bufs) : List (HloOp τ sig (Elt F)) := [
  TRef.unary arg0 φ.v0 (extractStridedSlice S4x512x1 ![0, 0, 0] · slices_S4x512x2048_S4x512x1_0_0_0),
  TRef.unary arg0 φ.v1 (extractStridedSlice S4x512x2 ![0, 0, 1] · slices_S4x512x2048_S4x512x2_0_0_1),
  TRef.unary φ.v1 φ.call0.v0 (Host.reverse [2]),
  TRef.binary φ.call0.v0 arg0 φ.v3 cat2050,
  TRef.unary φ.v3 φ.v4 (extractStridedSlice S4x512x1 ![0, 0, 2049] · slices_S4x512x2050_S4x512x1_0_0_2049),
  TRef.unary φ.v3 φ.v5 (extractStridedSlice S4x512x2 ![0, 0, 2047] · slices_S4x512x2050_S4x512x2_0_0_2047),
  TRef.unary φ.v5 φ.call1.v0 (Host.reverse [2]),
  TRef.binary φ.v3 φ.call1.v0 φ.v7 cat2052]

/-- The buffers that `padOps` writes. -/
abbrev padOpsW (φ : fn_pad.Bufs) : List (Ref sig .tc) := [φ.v0.ref, φ.v1.ref, φ.call0.v0.ref, φ.v3.ref, φ.v4.ref, φ.v5.ref, φ.call1.v0.ref, φ.v7.ref]

theorem padOps_writes (arg0 : TRef sig ⟨S4x512x2048, .f32⟩) (φ : fn_pad.Bufs) : (padOps arg0 φ : List (HloOp τ sig (Elt F))).Forall fun op => op.writes ⊆ ((padOpsW φ).map (Proc.devRef (τ := τ) .tc)).toFinset :=
  forall_writes_sub_of_map rfl

theorem padOps_sub (arg0 : TRef sig ⟨S4x512x2048, .f32⟩) (φ : fn_pad.Bufs) : (padOps arg0 φ : List (HloOp τ sig (Elt F))).Forall fun op => op.bufs ⊆ tcRefs τ sig :=
  ⟨unary_bufs_sub .., unary_bufs_sub .., unary_bufs_sub .., binary_bufs_sub .., unary_bufs_sub .., unary_bufs_sub .., unary_bufs_sub .., binary_bufs_sub ..⟩

theorem padOps_fresh (arg0 : TRef sig ⟨S4x512x2048, .f32⟩) (φ : fn_pad.Bufs) : (padOps arg0 φ : List (HloOp τ sig (Elt F))).Forall fun op => op.fresh = ∅ :=
  forall_fresh_of_map rfl

/-- The median, up to the sorted windows. -/
def sortOps (arg0 : TRef sig ⟨S4x512x2048x5, .f32⟩) (φ : fn_median.Bufs) : List (HloOp τ sig (Elt F)) := [
  TRef.nullary φ.cst (constant S_ .f32 0x3F000000#32),
  TRef.binary arg0 arg0 φ.call0.v0 (cmpf .une),
  TRef.nullary φ.call0.c (constantI S_ 1 0#1),
  TRef.binary φ.call0.v0 φ.call0.c φ.call0.v1 (fun x v => Host.reduce IntOp.ori x v reducesTo_S4x512x2048x5_S4x512x2048_d3 h_S_),
  TRef.unary φ.call0.v1 φ.call0.v2 (broadcastInDim S4x512x2048x1 ![0, 1, 2] bcast_S4x512x2048_S4x512x2048x1_0_1_2),
  TRef.nullary φ.call0.cst (constant S_ .f32 0x7FC00000#32),
  TRef.unary φ.call0.cst φ.call0.call0.v0 id,
  TRef.unary φ.call0.v2 φ.call0.call0.v1 (broadcastInDim S4x512x2048x5 ![0, 1, 2, 3] bcast_S4x512x2048x1_S4x512x2048x5_0_1_2_3),
  TRef.unary φ.call0.call0.v0 φ.call0.call0.v2 (broadcastInDim S4x512x2048x5 ![] bcast_S_S4x512x2048x5),
  TRef.ternary φ.call0.call0.v1 φ.call0.call0.v2 arg0 φ.call0.call0.v3 select,
  TRef.unary φ.call0.call0.v3 φ.call0.v4 (fun x => Host.sort S4x512x2048x5 3 comparator_f32_d3 x)]

/-- The buffers that `sortOps` writes. -/
abbrev sortOpsW (φ : fn_median.Bufs) : List (Ref sig .tc) := [φ.cst.ref, φ.call0.v0.ref, φ.call0.c.ref, φ.call0.v1.ref, φ.call0.v2.ref, φ.call0.cst.ref, φ.call0.call0.v0.ref, φ.call0.call0.v1.ref, φ.call0.call0.v2.ref, φ.call0.call0.v3.ref, φ.call0.v4.ref]

theorem sortOps_writes (arg0 : TRef sig ⟨S4x512x2048x5, .f32⟩) (φ : fn_median.Bufs) : (sortOps arg0 φ : List (HloOp τ sig (Elt F))).Forall fun op => op.writes ⊆ ((sortOpsW φ).map (Proc.devRef (τ := τ) .tc)).toFinset :=
  forall_writes_sub_of_map rfl

theorem sortOps_sub (arg0 : TRef sig ⟨S4x512x2048x5, .f32⟩) (φ : fn_median.Bufs) : (sortOps arg0 φ : List (HloOp τ sig (Elt F))).Forall fun op => op.bufs ⊆ tcRefs τ sig :=
  ⟨nullary_bufs_sub .., binary_bufs_sub .., nullary_bufs_sub .., binary_bufs_sub .., unary_bufs_sub .., nullary_bufs_sub .., unary_bufs_sub .., unary_bufs_sub .., unary_bufs_sub .., ternary_bufs_sub .., unary_bufs_sub ..⟩

theorem sortOps_fresh (arg0 : TRef sig ⟨S4x512x2048x5, .f32⟩) (φ : fn_median.Bufs) : (sortOps arg0 φ : List (HloOp τ sig (Elt F))).Forall fun op => op.fresh = ∅ :=
  forall_fresh_of_map rfl

/-- The median, from the sorted windows: the element at the middle position. -/
def midOps (φ : fn_median.Bufs) : List (HloOp τ sig (Elt F)) := [
  TRef.nullary φ.call0.cst_0 (constant S_ .f32 0x40A00000#32),
  TRef.nullary φ.call0.cst_1 (constant S_ .f32 0x3F800000#32),
  TRef.binary φ.call0.cst_0 φ.call0.cst_1 φ.call0.v5 subf,
  TRef.binary φ.cst φ.call0.v5 φ.call0.v6 mulf,
  TRef.unary φ.call0.v6 φ.call0.v7 Host.floor,
  TRef.unary φ.call0.v6 φ.call0.v8 Host.ceil,
  TRef.binary φ.call0.v6 φ.call0.v7 φ.call0.v9 subf,
  TRef.nullary φ.call0.cst_2 (constant S_ .f32 0x3F800000#32),
  TRef.binary φ.call0.cst_2 φ.call0.v9 φ.call0.v10 subf,
  TRef.nullary φ.call0.cst_3 (constant S_ .f32 0x40A00000#32),
  TRef.nullary φ.call0.cst_4 (constant S_ .f32 0x3F800000#32),
  TRef.binary φ.call0.cst_3 φ.call0.cst_4 φ.call0.v11 subf,
  TRef.nullary φ.call0.cst_5 (constant S_ .f32 0x00000000#32),
  TRef.ternary φ.call0.cst_5 φ.call0.v7 φ.call0.v11 φ.call0.v12 (fun lo x hi => minimumf (maximumf x lo) hi),
  TRef.nullary φ.call0.cst_6 (constant S_ .f32 0x40A00000#32),
  TRef.nullary φ.call0.cst_7 (constant S_ .f32 0x3F800000#32),
  TRef.binary φ.call0.cst_6 φ.call0.cst_7 φ.call0.v13 subf,
  TRef.nullary φ.call0.cst_8 (constant S_ .f32 0x00000000#32),
  TRef.ternary φ.call0.cst_8 φ.call0.v8 φ.call0.v13 φ.call0.v14 (fun lo x hi => minimumf (maximumf x lo) hi),
  TRef.unary φ.call0.v12 φ.call0.v15 (fptosi 32),
  TRef.unary φ.call0.v14 φ.call0.v16 (fptosi 32),
  TRef.unary φ.call0.v15 φ.call0.v17 (broadcastInDim S1 ![] bcast_S_S1),
  TRef.binary φ.call0.v4 φ.call0.v17 φ.call0.v18 (fun x i => Host.gather gather_S4x512x2048x5_S1_S4x512x2048_012_3_n_n_3_0_451220481 x i),
  TRef.unary φ.call0.v16 φ.call0.v19 (broadcastInDim S1 ![] bcast_S_S1),
  TRef.binary φ.call0.v4 φ.call0.v19 φ.call0.v20 (fun x i => Host.gather gather_S4x512x2048x5_S1_S4x512x2048_012_3_n_n_3_0_451220481 x i),
  TRef.binary φ.call0.v18 φ.call0.v20 φ.call0.v21 addf,
  TRef.nullary φ.call0.cst_9 (constant S_ .f32 0x3F000000#32),
  TRef.unary φ.call0.cst_9 φ.call0.v22 (broadcastInDim S4x512x2048 ![] bcast_S_S4x512x2048),
  TRef.binary φ.call0.v21 φ.call0.v22 φ.call0.v23 mulf]

/-- The buffers that `midOps` writes. -/
abbrev midOpsW (φ : fn_median.Bufs) : List (Ref sig .tc) := [φ.call0.cst_0.ref, φ.call0.cst_1.ref, φ.call0.v5.ref, φ.call0.v6.ref, φ.call0.v7.ref, φ.call0.v8.ref, φ.call0.v9.ref, φ.call0.cst_2.ref, φ.call0.v10.ref, φ.call0.cst_3.ref, φ.call0.cst_4.ref, φ.call0.v11.ref, φ.call0.cst_5.ref, φ.call0.v12.ref, φ.call0.cst_6.ref, φ.call0.cst_7.ref, φ.call0.v13.ref, φ.call0.cst_8.ref, φ.call0.v14.ref, φ.call0.v15.ref, φ.call0.v16.ref, φ.call0.v17.ref, φ.call0.v18.ref, φ.call0.v19.ref, φ.call0.v20.ref, φ.call0.v21.ref, φ.call0.cst_9.ref, φ.call0.v22.ref, φ.call0.v23.ref]

theorem midOps_writes (φ : fn_median.Bufs) : (midOps φ : List (HloOp τ sig (Elt F))).Forall fun op => op.writes ⊆ ((midOpsW φ).map (Proc.devRef (τ := τ) .tc)).toFinset :=
  forall_writes_sub_of_map rfl

theorem midOps_sub (φ : fn_median.Bufs) : (midOps φ : List (HloOp τ sig (Elt F))).Forall fun op => op.bufs ⊆ tcRefs τ sig :=
  ⟨nullary_bufs_sub .., nullary_bufs_sub .., binary_bufs_sub .., binary_bufs_sub .., unary_bufs_sub .., unary_bufs_sub .., binary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., ternary_bufs_sub .., unary_bufs_sub .., unary_bufs_sub .., unary_bufs_sub .., binary_bufs_sub .., unary_bufs_sub .., binary_bufs_sub .., binary_bufs_sub .., nullary_bufs_sub .., unary_bufs_sub .., binary_bufs_sub ..⟩

theorem midOps_fresh (φ : fn_median.Bufs) : (midOps φ : List (HloOp τ sig (Elt F))).Forall fun op => op.fresh = ∅ :=
  forall_fresh_of_map rfl

/-- The five shifted copies of the padded array, stacked: first pool. -/
def stack1Ops : List (HloOp τ sig (Elt F)) := [
  unary main_v48 main_v49 ((extractStridedSlice S4x512x2048 ![0, 0, 0] · slices_S4x512x2052_S4x512x2048_0_0_0) : (⟨S4x512x2052, .f32⟩ : BufTy).Contents (Elt F) → (⟨S4x512x2048, .f32⟩ : BufTy).Contents (Elt F)),
  unary main_v48 main_v50 ((extractStridedSlice S4x512x2048 ![0, 0, 1] · slices_S4x512x2052_S4x512x2048_0_0_1) : (⟨S4x512x2052, .f32⟩ : BufTy).Contents (Elt F) → (⟨S4x512x2048, .f32⟩ : BufTy).Contents (Elt F)),
  unary main_v48 main_v51 ((extractStridedSlice S4x512x2048 ![0, 0, 2] · slices_S4x512x2052_S4x512x2048_0_0_2) : (⟨S4x512x2052, .f32⟩ : BufTy).Contents (Elt F) → (⟨S4x512x2048, .f32⟩ : BufTy).Contents (Elt F)),
  unary main_v48 main_v52 ((extractStridedSlice S4x512x2048 ![0, 0, 3] · slices_S4x512x2052_S4x512x2048_0_0_3) : (⟨S4x512x2052, .f32⟩ : BufTy).Contents (Elt F) → (⟨S4x512x2048, .f32⟩ : BufTy).Contents (Elt F)),
  unary main_v48 main_v53 ((extractStridedSlice S4x512x2048 ![0, 0, 4] · slices_S4x512x2052_S4x512x2048_0_0_4) : (⟨S4x512x2052, .f32⟩ : BufTy).Contents (Elt F) → (⟨S4x512x2048, .f32⟩ : BufTy).Contents (Elt F)),
  unary main_v49 main_v54 (broadcastInDim S4x512x2048x1 ![0, 1, 2] bcast_S4x512x2048_S4x512x2048x1_0_1_2 : (⟨S4x512x2048, .f32⟩ : BufTy).Contents (Elt F) → (⟨S4x512x2048x1, .f32⟩ : BufTy).Contents (Elt F)),
  unary main_v50 main_v55 (broadcastInDim S4x512x2048x1 ![0, 1, 2] bcast_S4x512x2048_S4x512x2048x1_0_1_2 : (⟨S4x512x2048, .f32⟩ : BufTy).Contents (Elt F) → (⟨S4x512x2048x1, .f32⟩ : BufTy).Contents (Elt F)),
  unary main_v51 main_v56 (broadcastInDim S4x512x2048x1 ![0, 1, 2] bcast_S4x512x2048_S4x512x2048x1_0_1_2 : (⟨S4x512x2048, .f32⟩ : BufTy).Contents (Elt F) → (⟨S4x512x2048x1, .f32⟩ : BufTy).Contents (Elt F)),
  unary main_v52 main_v57 (broadcastInDim S4x512x2048x1 ![0, 1, 2] bcast_S4x512x2048_S4x512x2048x1_0_1_2 : (⟨S4x512x2048, .f32⟩ : BufTy).Contents (Elt F) → (⟨S4x512x2048x1, .f32⟩ : BufTy).Contents (Elt F)),
  unary main_v53 main_v58 (broadcastInDim S4x512x2048x1 ![0, 1, 2] bcast_S4x512x2048_S4x512x2048x1_0_1_2 : (⟨S4x512x2048, .f32⟩ : BufTy).Contents (Elt F) → (⟨S4x512x2048x1, .f32⟩ : BufTy).Contents (Elt F)),
  nary ![main_v54, main_v55, main_v56, main_v57, main_v58] main_v59 (fun u => cat5 (u 0) (u 1) (u 2) (u 3) (u 4))]

/-- The buffers that `stack1Ops` writes. -/
abbrev stack1OpsW : List (Ref sig .tc) := [main_v49, main_v50, main_v51, main_v52, main_v53, main_v54, main_v55, main_v56, main_v57, main_v58, main_v59]

theorem stack1Ops_writes : (stack1Ops : List (HloOp τ sig (Elt F))).Forall fun op => op.writes ⊆ ((stack1OpsW).map (Proc.devRef (τ := τ) .tc)).toFinset :=
  forall_writes_sub_of_map rfl

theorem stack1Ops_sub : (stack1Ops : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., nary_bufs_sub ..⟩

theorem stack1Ops_fresh : (stack1Ops : List (HloOp τ sig (Elt F))).Forall fun op => op.fresh = ∅ :=
  forall_fresh_of_map rfl

/-- A constant that nothing reads. -/
def c1Ops : List (HloOp τ sig (Elt F)) := [
  nullary main_c_9 (constantI S_ 32 0#32)]

/-- The buffers that `c1Ops` writes. -/
abbrev c1OpsW : List (Ref sig .tc) := [main_c_9]

theorem c1Ops_writes : (c1Ops : List (HloOp τ sig (Elt F))).Forall fun op => op.writes ⊆ ((c1OpsW).map (Proc.devRef (τ := τ) .tc)).toFinset :=
  forall_writes_sub_of_map rfl

theorem c1Ops_sub : (c1Ops : List (HloOp τ sig (Elt F))).Forall fun op => op.bufs ⊆ tcRefs τ sig :=
  nullary_bufs_sub ..

theorem c1Ops_fresh : (c1Ops : List (HloOp τ sig (Elt F))).Forall fun op => op.fresh = ∅ :=
  forall_fresh_of_map rfl

/-- The five shifted copies of the padded array, stacked: second pool. -/
def stack2Ops : List (HloOp τ sig (Elt F)) := [
  unary main_v61 main_v62 ((extractStridedSlice S4x512x2048 ![0, 0, 0] · slices_S4x512x2052_S4x512x2048_0_0_0) : (⟨S4x512x2052, .f32⟩ : BufTy).Contents (Elt F) → (⟨S4x512x2048, .f32⟩ : BufTy).Contents (Elt F)),
  unary main_v61 main_v63 ((extractStridedSlice S4x512x2048 ![0, 0, 1] · slices_S4x512x2052_S4x512x2048_0_0_1) : (⟨S4x512x2052, .f32⟩ : BufTy).Contents (Elt F) → (⟨S4x512x2048, .f32⟩ : BufTy).Contents (Elt F)),
  unary main_v61 main_v64 ((extractStridedSlice S4x512x2048 ![0, 0, 2] · slices_S4x512x2052_S4x512x2048_0_0_2) : (⟨S4x512x2052, .f32⟩ : BufTy).Contents (Elt F) → (⟨S4x512x2048, .f32⟩ : BufTy).Contents (Elt F)),
  unary main_v61 main_v65 ((extractStridedSlice S4x512x2048 ![0, 0, 3] · slices_S4x512x2052_S4x512x2048_0_0_3) : (⟨S4x512x2052, .f32⟩ : BufTy).Contents (Elt F) → (⟨S4x512x2048, .f32⟩ : BufTy).Contents (Elt F)),
  unary main_v61 main_v66 ((extractStridedSlice S4x512x2048 ![0, 0, 4] · slices_S4x512x2052_S4x512x2048_0_0_4) : (⟨S4x512x2052, .f32⟩ : BufTy).Contents (Elt F) → (⟨S4x512x2048, .f32⟩ : BufTy).Contents (Elt F)),
  unary main_v62 main_v67 (broadcastInDim S4x512x2048x1 ![0, 1, 2] bcast_S4x512x2048_S4x512x2048x1_0_1_2 : (⟨S4x512x2048, .f32⟩ : BufTy).Contents (Elt F) → (⟨S4x512x2048x1, .f32⟩ : BufTy).Contents (Elt F)),
  unary main_v63 main_v68 (broadcastInDim S4x512x2048x1 ![0, 1, 2] bcast_S4x512x2048_S4x512x2048x1_0_1_2 : (⟨S4x512x2048, .f32⟩ : BufTy).Contents (Elt F) → (⟨S4x512x2048x1, .f32⟩ : BufTy).Contents (Elt F)),
  unary main_v64 main_v69 (broadcastInDim S4x512x2048x1 ![0, 1, 2] bcast_S4x512x2048_S4x512x2048x1_0_1_2 : (⟨S4x512x2048, .f32⟩ : BufTy).Contents (Elt F) → (⟨S4x512x2048x1, .f32⟩ : BufTy).Contents (Elt F)),
  unary main_v65 main_v70 (broadcastInDim S4x512x2048x1 ![0, 1, 2] bcast_S4x512x2048_S4x512x2048x1_0_1_2 : (⟨S4x512x2048, .f32⟩ : BufTy).Contents (Elt F) → (⟨S4x512x2048x1, .f32⟩ : BufTy).Contents (Elt F)),
  unary main_v66 main_v71 (broadcastInDim S4x512x2048x1 ![0, 1, 2] bcast_S4x512x2048_S4x512x2048x1_0_1_2 : (⟨S4x512x2048, .f32⟩ : BufTy).Contents (Elt F) → (⟨S4x512x2048x1, .f32⟩ : BufTy).Contents (Elt F)),
  nary ![main_v67, main_v68, main_v69, main_v70, main_v71] main_v72 (fun u => cat5 (u 0) (u 1) (u 2) (u 3) (u 4))]

/-- The buffers that `stack2Ops` writes. -/
abbrev stack2OpsW : List (Ref sig .tc) := [main_v62, main_v63, main_v64, main_v65, main_v66, main_v67, main_v68, main_v69, main_v70, main_v71, main_v72]

theorem stack2Ops_writes : (stack2Ops : List (HloOp τ sig (Elt F))).Forall fun op => op.writes ⊆ ((stack2OpsW).map (Proc.devRef (τ := τ) .tc)).toFinset :=
  forall_writes_sub_of_map rfl

theorem stack2Ops_sub : (stack2Ops : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., nary_bufs_sub ..⟩

theorem stack2Ops_fresh : (stack2Ops : List (HloOp τ sig (Elt F))).Forall fun op => op.fresh = ∅ :=
  forall_fresh_of_map rfl

/-- A constant that nothing reads. -/
def c2Ops : List (HloOp τ sig (Elt F)) := [
  nullary main_c_10 (constantI S_ 32 0#32)]

/-- The buffers that `c2Ops` writes. -/
abbrev c2OpsW : List (Ref sig .tc) := [main_c_10]

theorem c2Ops_writes : (c2Ops : List (HloOp τ sig (Elt F))).Forall fun op => op.writes ⊆ ((c2OpsW).map (Proc.devRef (τ := τ) .tc)).toFinset :=
  forall_writes_sub_of_map rfl

theorem c2Ops_sub : (c2Ops : List (HloOp τ sig (Elt F))).Forall fun op => op.bufs ⊆ tcRefs τ sig :=
  nullary_bufs_sub ..

theorem c2Ops_fresh : (c2Ops : List (HloOp τ sig (Elt F))).Forall fun op => op.fresh = ∅ :=
  forall_fresh_of_map rfl

/-- The five shifted copies of the padded array, stacked: third pool. -/
def stack3Ops : List (HloOp τ sig (Elt F)) := [
  unary main_v74 main_v75 ((extractStridedSlice S4x512x2048 ![0, 0, 0] · slices_S4x512x2052_S4x512x2048_0_0_0) : (⟨S4x512x2052, .f32⟩ : BufTy).Contents (Elt F) → (⟨S4x512x2048, .f32⟩ : BufTy).Contents (Elt F)),
  unary main_v74 main_v76 ((extractStridedSlice S4x512x2048 ![0, 0, 1] · slices_S4x512x2052_S4x512x2048_0_0_1) : (⟨S4x512x2052, .f32⟩ : BufTy).Contents (Elt F) → (⟨S4x512x2048, .f32⟩ : BufTy).Contents (Elt F)),
  unary main_v74 main_v77 ((extractStridedSlice S4x512x2048 ![0, 0, 2] · slices_S4x512x2052_S4x512x2048_0_0_2) : (⟨S4x512x2052, .f32⟩ : BufTy).Contents (Elt F) → (⟨S4x512x2048, .f32⟩ : BufTy).Contents (Elt F)),
  unary main_v74 main_v78 ((extractStridedSlice S4x512x2048 ![0, 0, 3] · slices_S4x512x2052_S4x512x2048_0_0_3) : (⟨S4x512x2052, .f32⟩ : BufTy).Contents (Elt F) → (⟨S4x512x2048, .f32⟩ : BufTy).Contents (Elt F)),
  unary main_v74 main_v79 ((extractStridedSlice S4x512x2048 ![0, 0, 4] · slices_S4x512x2052_S4x512x2048_0_0_4) : (⟨S4x512x2052, .f32⟩ : BufTy).Contents (Elt F) → (⟨S4x512x2048, .f32⟩ : BufTy).Contents (Elt F)),
  unary main_v75 main_v80 (broadcastInDim S4x512x2048x1 ![0, 1, 2] bcast_S4x512x2048_S4x512x2048x1_0_1_2 : (⟨S4x512x2048, .f32⟩ : BufTy).Contents (Elt F) → (⟨S4x512x2048x1, .f32⟩ : BufTy).Contents (Elt F)),
  unary main_v76 main_v81 (broadcastInDim S4x512x2048x1 ![0, 1, 2] bcast_S4x512x2048_S4x512x2048x1_0_1_2 : (⟨S4x512x2048, .f32⟩ : BufTy).Contents (Elt F) → (⟨S4x512x2048x1, .f32⟩ : BufTy).Contents (Elt F)),
  unary main_v77 main_v82 (broadcastInDim S4x512x2048x1 ![0, 1, 2] bcast_S4x512x2048_S4x512x2048x1_0_1_2 : (⟨S4x512x2048, .f32⟩ : BufTy).Contents (Elt F) → (⟨S4x512x2048x1, .f32⟩ : BufTy).Contents (Elt F)),
  unary main_v78 main_v83 (broadcastInDim S4x512x2048x1 ![0, 1, 2] bcast_S4x512x2048_S4x512x2048x1_0_1_2 : (⟨S4x512x2048, .f32⟩ : BufTy).Contents (Elt F) → (⟨S4x512x2048x1, .f32⟩ : BufTy).Contents (Elt F)),
  unary main_v79 main_v84 (broadcastInDim S4x512x2048x1 ![0, 1, 2] bcast_S4x512x2048_S4x512x2048x1_0_1_2 : (⟨S4x512x2048, .f32⟩ : BufTy).Contents (Elt F) → (⟨S4x512x2048x1, .f32⟩ : BufTy).Contents (Elt F)),
  nary ![main_v80, main_v81, main_v82, main_v83, main_v84] main_v85 (fun u => cat5 (u 0) (u 1) (u 2) (u 3) (u 4))]

/-- The buffers that `stack3Ops` writes. -/
abbrev stack3OpsW : List (Ref sig .tc) := [main_v75, main_v76, main_v77, main_v78, main_v79, main_v80, main_v81, main_v82, main_v83, main_v84, main_v85]

theorem stack3Ops_writes : (stack3Ops : List (HloOp τ sig (Elt F))).Forall fun op => op.writes ⊆ ((stack3OpsW).map (Proc.devRef (τ := τ) .tc)).toFinset :=
  forall_writes_sub_of_map rfl

theorem stack3Ops_sub : (stack3Ops : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., nary_bufs_sub ..⟩

theorem stack3Ops_fresh : (stack3Ops : List (HloOp τ sig (Elt F))).Forall fun op => op.fresh = ∅ :=
  forall_fresh_of_map rfl

/-! ## @main -/

/-- The first part of @main's operations: up to the first padding. -/
def part0 : List (HloOp τ sig (Elt F)) :=
  linOps ++ (softOps ++ (logitOps ++ (soft2Ops ++ (argOps (.of main_v39) main_call0 ++ (hotOps (.of main_v40) main_call1 ++ (selOps ++ (padOps (.of main_v47) main_call2)))))))

/-- The rest of @main's operations: the three pools. -/
def part1 : List (HloOp τ sig (Elt F)) :=
  stack1Ops ++ (sortOps (.of main_v59) main_call3 ++ (midOps main_call3 ++ (c1Ops ++ (padOps (.of main_v60) main_call4 ++ (stack2Ops ++ (sortOps (.of main_v72) main_call5 ++ (midOps main_call5 ++ (c2Ops ++ (padOps (.of main_v73) main_call6 ++ (stack3Ops ++ (sortOps (.of main_v85) main_call7 ++ (midOps main_call7))))))))))))

/-- @main's operations, in order. -/
def ops : List (HloOp τ sig (Elt F)) := part0 ++ part1

set_option maxRecDepth 8192 in
set_option maxHeartbeats 4000000 in
theorem part0_eq (c : Dev nD) : main_part0 (F := F) c = seq part0 := rfl
set_option maxRecDepth 8192 in
set_option maxHeartbeats 4000000 in
theorem part1_eq (c : Dev nD) : main_part1 (F := F) c = seq part1 := rfl
theorem main_eq (c : Dev nD) : main (F := F) c = seq ops := by
  rw [ops, seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, part0, part1, List.forall_append]
  exact ⟨⟨linOps_sub, softOps_sub, logitOps_sub, soft2Ops_sub, argOps_sub .., hotOps_sub .., selOps_sub, padOps_sub ..⟩, stack1Ops_sub, sortOps_sub .., midOps_sub .., c1Ops_sub, padOps_sub .., stack2Ops_sub, sortOps_sub .., midOps_sub .., c2Ops_sub, padOps_sub .., stack3Ops_sub, sortOps_sub .., midOps_sub ..⟩

theorem ops_fresh : ∀ op ∈ (ops : List (HloOp τ sig (Elt F))), op.fresh = ∅ := by
  refine List.forall_iff_forall_mem.mp ?_
  simp only [ops, part0, part1, List.forall_append]
  exact ⟨⟨linOps_fresh, softOps_fresh, logitOps_fresh, soft2Ops_fresh, argOps_fresh .., hotOps_fresh .., selOps_fresh, padOps_fresh ..⟩, stack1Ops_fresh, sortOps_fresh .., midOps_fresh .., c1Ops_fresh, padOps_fresh .., stack2Ops_fresh, sortOps_fresh .., midOps_fresh .., c2Ops_fresh, padOps_fresh .., stack3Ops_fresh, sortOps_fresh .., midOps_fresh ..⟩

end Cert.Ref

end
-- ==== Proof.Ref.Stages.lean ====
module

public import proofs.«01_k».proof.Proof.Ref.Ops

/-!
What each stage of the reference leaves in its result buffer, as a pure function of the buffers that
it reads, and from these what the whole run leaves: the posterior, and the three times pooled mask.
-/

@[expose] public section

set_option Elab.async false

noncomputable section

namespace Cert.Ref

open Cert.ReferenceIdeal Cert.ReferenceIdeal.Gen Idealize.ShloMosaic Idealize.ShloMosaic.TcCoe Idealize.SL.Sem Idealize.ShloMosaic.StableHlo

variable {F : FTy → Type} [FloatOps F]

/-! ## The stages as pure functions -/

/-- The linear layer with its bias, over the temperature scale. -/
def linF (x : FVec F S4x512x2048 .f32) (w : FVec F S2x512 .f32) (b : FVec F S2 .f32) : FVec F S4x2048x2 .f32 :=
  Host.divf (addf (Host.dotGeneral dot_S4x512x2048_S2x512_S4x2048x2_1_1_02_0_n_n none x w)
      (broadcastInDim S4x2048x2 ![0, 1, 2] bcast_S1x1x2_S4x2048x2_0_1_2 (broadcastInDim S1x1x2 ![2] bcast_S2_S1x1x2_2 b)))
    (broadcastInDim S4x2048x2 ![] bcast_S_S4x2048x2 (constant S_ .f32 0x41200000#32))

/-- The exponentials of a softmax over the two classes, the larger logit taken away first. -/
def expF (z : FVec F S4x2048x2 .f32) : FVec F S4x2048x2 .f32 :=
  Host.exp (subf z (broadcastInDim S4x2048x2 ![0, 1, 2] bcast_S4x2048x1_S4x2048x2_0_1_2
    (broadcastInDim S4x2048x1 ![0, 1] bcast_S4x2048_S4x2048x1_0_1
      (maximumf (broadcastInDim S4x2048 ![] bcast_S_S4x2048 (constant S_ .f32 0xFF800000#32))
        (Host.reduce FloatOps.maximumf z (constant S_ .f32 0xFF800000#32) reducesTo_S4x2048x2_S4x2048_d2 h_S_)))))

/-- A softmax over the two classes. -/
def softF (z : FVec F S4x2048x2 .f32) : FVec F S4x2048x2 .f32 :=
  Host.divf (expF z) (broadcastInDim S4x2048x2 ![0, 1, 2] bcast_S4x2048x1_S4x2048x2_0_1_2
    (broadcastInDim S4x2048x1 ![0, 1] bcast_S4x2048_S4x2048x1_0_1
      (Host.reduceAdd (expF z) (constant S_ .f32 0x00000000#32) reducesTo_S4x2048x2_S4x2048_d2 h_S_)))

/-- The log of the posterior plus the Gumbel noise drawn from `u`, over the second temperature. -/
def logitF (p u : FVec F S4x2048x2 .f32) : FVec F S4x2048x2 .f32 :=
  Host.divf (addf (Host.log p) (Host.negf (Host.log (addf (Host.negf (Host.log (addf u
        (broadcastInDim S4x2048x2 ![] bcast_S_S4x2048x2 (constant S_ .f32 0x1E3CE508#32)))))
      (broadcastInDim S4x2048x2 ![] bcast_S_S4x2048x2 (constant S_ .f32 0x1E3CE508#32))))))
    (broadcastInDim S4x2048x2 ![] bcast_S_S4x2048x2 (constant S_ .f32 0x3F4CCCCD#32))

/-- The class of the larger probability. -/
def argF (y : FVec F S4x2048x2 .f32) : IVec S4x2048 32 :=
  argInds y (iotaInDim S4x2048x2 32 2) (constant S_ .f32 0xFF800000#32) (constantI S_ 32 0#32)

/-- The one-hot form of a class. -/
def hotF (k : IVec S4x2048 32) : FVec F S4x2048x2 .f32 :=
  uitofp .f32 (cmpi .eq
    (broadcastInDim S4x2048x2 ![0, 1, 2] bcast_S4x2048x1_S4x2048x2_0_1_2 (broadcastInDim S4x2048x1 ![0, 1] bcast_S4x2048_S4x2048x1_0_1 k))
    (broadcastInDim S4x2048x2 ![0, 1, 2] bcast_S1x1x2_S4x2048x2_0_1_2 (iotaInDim S1x1x2 32 2)))

/-- The straight-through selector of class one times the spectrum. -/
def selF (hot y : FVec F S4x2048x2 .f32) (e : FVec F S4x512x2048 .f32) : FVec F S4x512x2048 .f32 :=
  mulf (broadcastInDim S4x512x2048 ![0, 1, 2] bcast_S4x1x2048_S4x512x2048_0_1_2
      (transpose S4x1x2048 [0, 2, 1] (extractStridedSlice S4x2048x1 ![0, 0, 1] (addf (subf hot y) y) slices_S4x2048x2_S4x2048x1_0_0_1)
        transposes_S4x2048x1_S4x1x2048_0_2_1)) e

/-- The left half of the reflecting pad. -/
def padLeft (x : FVec F S4x512x2048 .f32) : FVec F S4x512x2050 .f32 :=
  cat2050 (Host.reverse [2] (extractStridedSlice S4x512x2 ![0, 0, 1] x slices_S4x512x2048_S4x512x2_0_0_1)) x

/-- The reflecting pad of two columns on either side. -/
def padF (x : FVec F S4x512x2048 .f32) : FVec F S4x512x2052 .f32 :=
  cat2052 (padLeft x) (Host.reverse [2] (extractStridedSlice S4x512x2 ![0, 0, 2047] (padLeft x) slices_S4x512x2050_S4x512x2_0_0_2047))

/-- The five shifted copies of the padded array, stacked along a new last axis. -/
def stackF (x : FVec F S4x512x2052 .f32) : FVec F S4x512x2048x5 .f32 :=
  cat5 (broadcastInDim S4x512x2048x1 ![0, 1, 2] bcast_S4x512x2048_S4x512x2048x1_0_1_2 (extractStridedSlice S4x512x2048 ![0, 0, 0] x slices_S4x512x2052_S4x512x2048_0_0_0))
    (broadcastInDim S4x512x2048x1 ![0, 1, 2] bcast_S4x512x2048_S4x512x2048x1_0_1_2 (extractStridedSlice S4x512x2048 ![0, 0, 1] x slices_S4x512x2052_S4x512x2048_0_0_1))
    (broadcastInDim S4x512x2048x1 ![0, 1, 2] bcast_S4x512x2048_S4x512x2048x1_0_1_2 (extractStridedSlice S4x512x2048 ![0, 0, 2] x slices_S4x512x2052_S4x512x2048_0_0_2))
    (broadcastInDim S4x512x2048x1 ![0, 1, 2] bcast_S4x512x2048_S4x512x2048x1_0_1_2 (extractStridedSlice S4x512x2048 ![0, 0, 3] x slices_S4x512x2052_S4x512x2048_0_0_3))
    (broadcastInDim S4x512x2048x1 ![0, 1, 2] bcast_S4x512x2048_S4x512x2048x1_0_1_2 (extractStridedSlice S4x512x2048 ![0, 0, 4] x slices_S4x512x2052_S4x512x2048_0_0_4))

/-- The windows, one that holds an element unequal to itself replaced, each sorted. -/
def sortF (w : FVec F S4x512x2048x5 .f32) : FVec F S4x512x2048x5 .f32 :=
  Host.sort S4x512x2048x5 3 comparator_f32_d3
    (select (broadcastInDim S4x512x2048x5 ![0, 1, 2, 3] bcast_S4x512x2048x1_S4x512x2048x5_0_1_2_3
        (broadcastInDim S4x512x2048x1 ![0, 1, 2] bcast_S4x512x2048_S4x512x2048x1_0_1_2
          (Host.reduce IntOp.ori (cmpf .une w w) (constantI S_ 1 0#1) reducesTo_S4x512x2048x5_S4x512x2048_d3 h_S_)))
      (broadcastInDim S4x512x2048x5 ![] bcast_S_S4x512x2048x5 (id (constant S_ .f32 0x7FC00000#32))) w)

/-- The position of the quantile `q` among the five: `q` times four. -/
def posF (q : FVec F S_ .f32) : FVec F S_ .f32 :=
  mulf q (subf (constant S_ .f32 0x40A00000#32) (constant S_ .f32 0x3F800000#32))

/-- A rounded position as the index it selects, kept between zero and four. -/
def indF (p : FVec F S_ .f32) : IVec S1 32 :=
  broadcastInDim S1 ![] bcast_S_S1 (fptosi 32 (minimumf (maximumf p (constant S_ .f32 0x00000000#32))
    (subf (constant S_ .f32 0x40A00000#32) (constant S_ .f32 0x3F800000#32))))

/-- The mean of the sorted elements at the position rounded down and at the position rounded up. -/
def midF (q : FVec F S_ .f32) (s : FVec F S4x512x2048x5 .f32) : FVec F S4x512x2048 .f32 :=
  mulf (addf (Host.gather gather_S4x512x2048x5_S1_S4x512x2048_012_3_n_n_3_0_451220481 s (indF (Host.floor (posF q))))
      (Host.gather gather_S4x512x2048x5_S1_S4x512x2048_012_3_n_n_3_0_451220481 s (indF (Host.ceil (posF q)))))
    (broadcastInDim S4x512x2048 ![] bcast_S_S4x512x2048 (constant S_ .f32 0x3F000000#32))

/-- One median pool. -/
def poolF (x : FVec F S4x512x2048 .f32) : FVec F S4x512x2048 .f32 :=
  midF (constant S_ .f32 0x3F000000#32) (sortF (stackF (padF x)))

/-- The posterior of the two classes. -/
def postF (x : FVec F S4x512x2048 .f32) (w : FVec F S2x512 .f32) (b : FVec F S2 .f32) : FVec F S4x2048x2 .f32 :=
  softF (linF x w b)

/-- The selected spectrum, before the pools. -/
def sampF (p u : FVec F S4x2048x2 .f32) (e : FVec F S4x512x2048 .f32) : FVec F S4x512x2048 .f32 :=
  selF (hotF (argF (softF (logitF p u)))) (softF (logitF p u)) e

/-! ## What each stage leaves -/

set_option maxRecDepth 8192 in
set_option maxHeartbeats 4000000 in
/-- The linear layer. -/
theorem lin_at (V : Valuation τ sig (Elt F)) :
    after (linOps) V (Proc.devRef .tc main_v5) = linF (F := F) (V (Proc.devRef .tc main_arg0)) (V (Proc.devRef .tc main_arg3)) (V (Proc.devRef .tc main_arg4)) := by
  simp only [linOps]
  after_results_simp
  all_goals rfl

set_option maxRecDepth 8192 in
set_option maxHeartbeats 4000000 in
/-- The posterior. -/
theorem soft_at (V : Valuation τ sig (Elt F)) :
    after (softOps) V (Proc.devRef .tc main_v16) = softF (F := F) (V (Proc.devRef .tc main_v5)) := by
  simp only [softOps]
  after_results_simp
  all_goals rfl

set_option maxRecDepth 8192 in
set_option maxHeartbeats 4000000 in
/-- The noisy logits. -/
theorem logit_at (V : Valuation τ sig (Elt F)) :
    after (logitOps) V (Proc.devRef .tc main_v28) = logitF (F := F) (V (Proc.devRef .tc main_v16)) (V (Proc.devRef .tc main_arg2)) := by
  simp only [logitOps]
  after_results_simp
  all_goals rfl

set_option maxRecDepth 8192 in
set_option maxHeartbeats 4000000 in
/-- The softmax of the noisy logits. -/
theorem soft2_at (V : Valuation τ sig (Elt F)) :
    after (soft2Ops) V (Proc.devRef .tc main_v39) = softF (F := F) (V (Proc.devRef .tc main_v28)) := by
  simp only [soft2Ops]
  after_results_simp
  all_goals rfl

set_option maxRecDepth 8192 in
set_option maxHeartbeats 4000000 in
/-- The class of the larger probability. -/
theorem arg_at (V : Valuation τ sig (Elt F)) :
    after (argOps (.of main_v39) main_call0) V (Proc.devRef .tc main_v40) = argF (F := F) (V (Proc.devRef .tc main_v39)) := by
  simp only [argOps, main_call0, TRef.nullary, TRef.unary, TRef.binary, TRef.ternary, TRef.quaternary, TRef.toBuf, TRef.ofBuf, cast_eq]
  after_results_simp
  all_goals rfl

set_option maxRecDepth 8192 in
set_option maxHeartbeats 4000000 in
/-- Its one-hot form. -/
theorem hot_at (V : Valuation τ sig (Elt F)) :
    after (hotOps (.of main_v40) main_call1) V (Proc.devRef .tc main_v41) = hotF (F := F) (V (Proc.devRef .tc main_v40)) := by
  simp only [hotOps, main_call1, TRef.nullary, TRef.unary, TRef.binary, TRef.ternary, TRef.quaternary, TRef.toBuf, TRef.ofBuf, cast_eq]
  after_results_simp
  all_goals rfl

set_option maxRecDepth 8192 in
set_option maxHeartbeats 4000000 in
/-- The selected spectrum. -/
theorem sel_at (V : Valuation τ sig (Elt F)) :
    after (selOps) V (Proc.devRef .tc main_v47) = selF (F := F) (V (Proc.devRef .tc main_v41)) (V (Proc.devRef .tc main_v39)) (V (Proc.devRef .tc main_arg1)) := by
  simp only [selOps]
  after_results_simp
  all_goals rfl

set_option maxRecDepth 8192 in
set_option maxHeartbeats 4000000 in
/-- The padded array. -/
theorem pad1_at (V : Valuation τ sig (Elt F)) :
    after (padOps (.of main_v47) main_call2) V (Proc.devRef .tc main_v48) = padF (F := F) (V (Proc.devRef .tc main_v47)) := by
  simp only [padOps, main_call2, main_call2_call0, main_call2_call1, TRef.nullary, TRef.unary, TRef.binary, TRef.ternary, TRef.quaternary, TRef.toBuf, TRef.ofBuf, cast_eq]
  after_results_simp
  all_goals rfl

set_option maxRecDepth 8192 in
set_option maxHeartbeats 4000000 in
/-- The padded array. -/
theorem pad2_at (V : Valuation τ sig (Elt F)) :
    after (padOps (.of main_v60) main_call4) V (Proc.devRef .tc main_v61) = padF (F := F) (V (Proc.devRef .tc main_v60)) := by
  simp only [padOps, main_call4, main_call4_call0, main_call4_call1, TRef.nullary, TRef.unary, TRef.binary, TRef.ternary, TRef.quaternary, TRef.toBuf, TRef.ofBuf, cast_eq]
  after_results_simp
  all_goals rfl

set_option maxRecDepth 8192 in
set_option maxHeartbeats 4000000 in
/-- The padded array. -/
theorem pad3_at (V : Valuation τ sig (Elt F)) :
    after (padOps (.of main_v73) main_call6) V (Proc.devRef .tc main_v74) = padF (F := F) (V (Proc.devRef .tc main_v73)) := by
  simp only [padOps, main_call6, main_call6_call0, main_call6_call1, TRef.nullary, TRef.unary, TRef.binary, TRef.ternary, TRef.quaternary, TRef.toBuf, TRef.ofBuf, cast_eq]
  after_results_simp
  all_goals rfl

set_option maxRecDepth 8192 in
set_option maxHeartbeats 4000000 in
/-- The stacked windows. -/
theorem stack1_at (V : Valuation τ sig (Elt F)) :
    after (stack1Ops) V (Proc.devRef .tc main_v59) = stackF (F := F) (V (Proc.devRef .tc main_v48)) := by
  simp only [stack1Ops]
  after_results_simp
  dsimp only [Matrix.cons_val]
  after_results_simp
  all_goals rfl

set_option maxRecDepth 8192 in
set_option maxHeartbeats 4000000 in
/-- The sorted windows. -/
theorem sort1_at (V : Valuation τ sig (Elt F)) :
    after (sortOps (.of main_v59) main_call3) V (Proc.devRef .tc main_call3_call0_v4) = sortF (F := F) (V (Proc.devRef .tc main_v59)) := by
  simp only [sortOps, main_call3, main_call3_call0, main_call3_call0_call0, TRef.nullary, TRef.unary, TRef.binary, TRef.ternary, TRef.quaternary, TRef.toBuf, TRef.ofBuf, cast_eq]
  after_results_simp
  all_goals rfl

set_option maxRecDepth 8192 in
set_option maxHeartbeats 4000000 in
/-- The middle element. -/
theorem mid1_at (V : Valuation τ sig (Elt F)) :
    after (midOps main_call3) V (Proc.devRef .tc main_v60) = midF (F := F) (V (Proc.devRef .tc main_call3_cst)) (V (Proc.devRef .tc main_call3_call0_v4)) := by
  simp only [midOps, main_call3, main_call3_call0, main_call3_call0_call0, TRef.nullary, TRef.unary, TRef.binary, TRef.ternary, TRef.quaternary, TRef.toBuf, TRef.ofBuf, cast_eq]
  after_results_simp
  all_goals rfl

set_option maxRecDepth 8192 in
set_option maxHeartbeats 4000000 in
/-- The quantile: a half. -/
theorem half1_at (V : Valuation τ sig (Elt F)) :
    after (sortOps (.of main_v59) main_call3) V (Proc.devRef .tc main_call3_cst) = constant (F := F) S_ .f32 0x3F000000#32 := by
  simp only [sortOps, main_call3, main_call3_call0, main_call3_call0_call0, TRef.nullary, TRef.unary, TRef.binary, TRef.ternary, TRef.quaternary, TRef.toBuf, TRef.ofBuf, cast_eq]
  after_results_simp
  all_goals rfl

set_option maxRecDepth 8192 in
set_option maxHeartbeats 4000000 in
/-- The stacked windows. -/
theorem stack2_at (V : Valuation τ sig (Elt F)) :
    after (stack2Ops) V (Proc.devRef .tc main_v72) = stackF (F := F) (V (Proc.devRef .tc main_v61)) := by
  simp only [stack2Ops]
  after_results_simp
  dsimp only [Matrix.cons_val]
  after_results_simp
  all_goals rfl

set_option maxRecDepth 8192 in
set_option maxHeartbeats 4000000 in
/-- The sorted windows. -/
theorem sort2_at (V : Valuation τ sig (Elt F)) :
    after (sortOps (.of main_v72) main_call5) V (Proc.devRef .tc main_call5_call0_v4) = sortF (F := F) (V (Proc.devRef .tc main_v72)) := by
  simp only [sortOps, main_call5, main_call5_call0, main_call5_call0_call0, TRef.nullary, TRef.unary, TRef.binary, TRef.ternary, TRef.quaternary, TRef.toBuf, TRef.ofBuf, cast_eq]
  after_results_simp
  all_goals rfl

set_option maxRecDepth 8192 in
set_option maxHeartbeats 4000000 in
/-- The middle element. -/
theorem mid2_at (V : Valuation τ sig (Elt F)) :
    after (midOps main_call5) V (Proc.devRef .tc main_v73) = midF (F := F) (V (Proc.devRef .tc main_call5_cst)) (V (Proc.devRef .tc main_call5_call0_v4)) := by
  simp only [midOps, main_call5, main_call5_call0, main_call5_call0_call0, TRef.nullary, TRef.unary, TRef.binary, TRef.ternary, TRef.quaternary, TRef.toBuf, TRef.ofBuf, cast_eq]
  after_results_simp
  all_goals rfl

set_option maxRecDepth 8192 in
set_option maxHeartbeats 4000000 in
/-- The quantile: a half. -/
theorem half2_at (V : Valuation τ sig (Elt F)) :
    after (sortOps (.of main_v72) main_call5) V (Proc.devRef .tc main_call5_cst) = constant (F := F) S_ .f32 0x3F000000#32 := by
  simp only [sortOps, main_call5, main_call5_call0, main_call5_call0_call0, TRef.nullary, TRef.unary, TRef.binary, TRef.ternary, TRef.quaternary, TRef.toBuf, TRef.ofBuf, cast_eq]
  after_results_simp
  all_goals rfl

set_option maxRecDepth 8192 in
set_option maxHeartbeats 4000000 in
/-- The stacked windows. -/
theorem stack3_at (V : Valuation τ sig (Elt F)) :
    after (stack3Ops) V (Proc.devRef .tc main_v85) = stackF (F := F) (V (Proc.devRef .tc main_v74)) := by
  simp only [stack3Ops]
  after_results_simp
  dsimp only [Matrix.cons_val]
  after_results_simp
  all_goals rfl

set_option maxRecDepth 8192 in
set_option maxHeartbeats 4000000 in
/-- The sorted windows. -/
theorem sort3_at (V : Valuation τ sig (Elt F)) :
    after (sortOps (.of main_v85) main_call7) V (Proc.devRef .tc main_call7_call0_v4) = sortF (F := F) (V (Proc.devRef .tc main_v85)) := by
  simp only [sortOps, main_call7, main_call7_call0, main_call7_call0_call0, TRef.nullary, TRef.unary, TRef.binary, TRef.ternary, TRef.quaternary, TRef.toBuf, TRef.ofBuf, cast_eq]
  after_results_simp
  all_goals rfl

set_option maxRecDepth 8192 in
set_option maxHeartbeats 4000000 in
/-- The middle element. -/
theorem mid3_at (V : Valuation τ sig (Elt F)) :
    after (midOps main_call7) V (Proc.devRef .tc main_v86) = midF (F := F) (V (Proc.devRef .tc main_call7_cst)) (V (Proc.devRef .tc main_call7_call0_v4)) := by
  simp only [midOps, main_call7, main_call7_call0, main_call7_call0_call0, TRef.nullary, TRef.unary, TRef.binary, TRef.ternary, TRef.quaternary, TRef.toBuf, TRef.ofBuf, cast_eq]
  after_results_simp
  all_goals rfl

set_option maxRecDepth 8192 in
set_option maxHeartbeats 4000000 in
/-- The quantile: a half. -/
theorem half3_at (V : Valuation τ sig (Elt F)) :
    after (sortOps (.of main_v85) main_call7) V (Proc.devRef .tc main_call7_cst) = constant (F := F) S_ .f32 0x3F000000#32 := by
  simp only [sortOps, main_call7, main_call7_call0, main_call7_call0_call0, TRef.nullary, TRef.unary, TRef.binary, TRef.ternary, TRef.quaternary, TRef.toBuf, TRef.ofBuf, cast_eq]
  after_results_simp
  all_goals rfl

end Cert.Ref

end
-- ==== Proof.Ref.Run.lean ====
module

public import proofs.«01_k».proof.Proof.Ref.Stages
public import Idealize.ShloMosaic.Lib.Claim

/-!
The reference's run: every execution ends with the posterior and the pooled mask as pure functions of
the arguments' launch contents, and leaves the arguments as they were.
-/

@[expose] public section

set_option Elab.async false

noncomputable section

namespace Cert.Ref

open Cert.ReferenceIdeal Cert.ReferenceIdeal.Gen Idealize.ShloMosaic Idealize.ShloMosaic.TcCoe Idealize.SL.Sem Idealize.ShloMosaic.StableHlo

variable {F : FTy → Type} [FloatOps F]

/-! ## What a stretch of stages keeps -/

/-- The buffers that the first part's operations write. -/
abbrev part0W : List (Ref sig .tc) :=
  linOpsW ++ (softOpsW ++ (logitOpsW ++ (soft2OpsW ++ (argOpsW main_call0 ++ (hotOpsW main_call1 ++ (selOpsW ++ (padOpsW main_call2)))))))

set_option maxRecDepth 8192 in
/-- A buffer that the first part's operations do not write keeps its contents. -/
theorem part0_keep (V : Valuation τ sig (Elt F)) (r : Ref sig .tc) (h : r ∉ part0W) :
    after (part0) V (Proc.devRef .tc r) = V (Proc.devRef .tc r) :=
  after_of_writes_sub (W := part0W) _ V (forall_writes_sub_of_map rfl) h

/-- The buffers that the pools' operations write. -/
abbrev part1W : List (Ref sig .tc) :=
  stack1OpsW ++ (sortOpsW main_call3 ++ (midOpsW main_call3 ++ (c1OpsW ++ (padOpsW main_call4 ++ (stack2OpsW ++ (sortOpsW main_call5 ++ (midOpsW main_call5 ++ (c2OpsW ++ (padOpsW main_call6 ++ (stack3OpsW ++ (sortOpsW main_call7 ++ (midOpsW main_call7))))))))))))

set_option maxRecDepth 8192 in
/-- A buffer that the pools' operations do not write keeps its contents. -/
theorem part1_keep (V : Valuation τ sig (Elt F)) (r : Ref sig .tc) (h : r ∉ part1W) :
    after (part1) V (Proc.devRef .tc r) = V (Proc.devRef .tc r) :=
  after_of_writes_sub (W := part1W) _ V (forall_writes_sub_of_map rfl) h

/-- The buffers that the stages up to the noisy logits write. -/
abbrev toLogitW : List (Ref sig .tc) :=
  linOpsW ++ (softOpsW)

set_option maxRecDepth 8192 in
/-- A buffer that the stages up to the noisy logits do not write keeps its contents. -/
theorem toLogit_keep (V : Valuation τ sig (Elt F)) (r : Ref sig .tc) (h : r ∉ toLogitW) :
    after (linOps ++ softOps) V (Proc.devRef .tc r) = V (Proc.devRef .tc r) :=
  after_of_writes_sub (W := toLogitW) _ V (forall_writes_sub_of_map rfl) h

/-- The buffers that the stages after the posterior write. -/
abbrev toPadW : List (Ref sig .tc) :=
  logitOpsW ++ (soft2OpsW ++ (argOpsW main_call0 ++ (hotOpsW main_call1 ++ (selOpsW ++ (padOpsW main_call2)))))

set_option maxRecDepth 8192 in
/-- A buffer that the stages after the posterior do not write keeps its contents. -/
theorem toPad_keep (V : Valuation τ sig (Elt F)) (r : Ref sig .tc) (h : r ∉ toPadW) :
    after (logitOps ++ (soft2Ops ++ (argOps (.of main_v39) main_call0 ++ (hotOps (.of main_v40) main_call1 ++ (selOps ++ (padOps (.of main_v47) main_call2)))))) V (Proc.devRef .tc r) = V (Proc.devRef .tc r) :=
  after_of_writes_sub (W := toPadW) _ V (forall_writes_sub_of_map rfl) h

/-- The buffers that the argmax and the one-hot form write. -/
abbrev argHotW : List (Ref sig .tc) :=
  argOpsW main_call0 ++ (hotOpsW main_call1)

set_option maxRecDepth 8192 in
/-- A buffer that the argmax and the one-hot form do not write keeps its contents. -/
theorem argHot_keep (V : Valuation τ sig (Elt F)) (r : Ref sig .tc) (h : r ∉ argHotW) :
    after (argOps (.of main_v39) main_call0 ++ (hotOps (.of main_v40) main_call1)) V (Proc.devRef .tc r) = V (Proc.devRef .tc r) :=
  after_of_writes_sub (W := argHotW) _ V (forall_writes_sub_of_map rfl) h

set_option maxRecDepth 8192 in
theorem c1_keep (V : Valuation τ sig (Elt F)) : after c1Ops V (Proc.devRef .tc main_v60) = V (Proc.devRef .tc main_v60) :=
  after_of_writes_sub (W := c1OpsW) _ V c1Ops_writes (by decide)

set_option maxRecDepth 8192 in
theorem c2_keep (V : Valuation τ sig (Elt F)) : after c2Ops V (Proc.devRef .tc main_v73) = V (Proc.devRef .tc main_v73) :=
  after_of_writes_sub (W := c2OpsW) _ V c2Ops_writes (by decide)

/-! ## The two results -/

variable (V : Valuation τ sig (Elt F))

/-- The posterior, as a function of the launch contents. -/
abbrev postV : FVec F S4x2048x2 .f32 :=
  postF (F := F) (V (Proc.devRef .tc main_arg0)) (V (Proc.devRef .tc main_arg3)) (V (Proc.devRef .tc main_arg4))

theorem soft_upto : after (linOps ++ softOps) V (Proc.devRef .tc main_v16) = postV V := by
  rw [after_append, soft_at, lin_at]
  rfl

/-- The first part leaves the posterior. -/
theorem part0_post : after part0 V (Proc.devRef .tc main_v16) = postV V := by
  have h : (part0 : List (HloOp τ sig (Elt F))) = (linOps ++ softOps) ++ (logitOps ++ (soft2Ops ++ (argOps (.of main_v39) main_call0 ++ (hotOps (.of main_v40) main_call1 ++ (selOps ++ (padOps (.of main_v47) main_call2)))))) := by
    simp only [part0, List.append_assoc]
  rw [h, after_append, toPad_keep _ _ (by decide), soft_upto]

theorem soft2_upto :
    after (linOps ++ (softOps ++ (logitOps ++ soft2Ops))) V (Proc.devRef .tc main_v39)
      = softF (F := F) (logitF (postV V) (V (Proc.devRef .tc main_arg2))) := by
  rw [← List.append_assoc, after_append, after_append, soft2_at, logit_at, soft_upto, toLogit_keep _ _ (by decide)]

/-- The first part leaves the selected spectrum, padded. -/
theorem part0_pad : after part0 V (Proc.devRef .tc main_v48)
    = padF (F := F) (sampF (postV V) (V (Proc.devRef .tc main_arg2)) (V (Proc.devRef .tc main_arg1))) := by
  have h : (part0 : List (HloOp τ sig (Elt F)))
      = (linOps ++ (softOps ++ (logitOps ++ soft2Ops)))
        ++ ((argOps (.of main_v39) main_call0 ++ hotOps (.of main_v40) main_call1) ++ (selOps ++ padOps (.of main_v47) main_call2)) := by
    simp only [part0, List.append_assoc]
  have hk : ∀ (U : Valuation τ sig (Elt F)) (r : Ref sig .tc), r ∉ argHotW →
      after (argOps (.of main_v39) main_call0 ++ hotOps (.of main_v40) main_call1) U (Proc.devRef .tc r) = U (Proc.devRef .tc r) :=
    fun U r hr => argHot_keep U r hr
  have hh : ∀ U : Valuation τ sig (Elt F),
      after (argOps (.of main_v39) main_call0 ++ hotOps (.of main_v40) main_call1) U (Proc.devRef .tc main_v41)
        = hotF (F := F) (argF (U (Proc.devRef .tc main_v39))) := by
    intro U
    rw [after_append, hot_at, arg_at]
  have he : ∀ U : Valuation τ sig (Elt F),
      after (linOps ++ (softOps ++ (logitOps ++ soft2Ops))) U (Proc.devRef .tc main_arg1) = U (Proc.devRef .tc main_arg1) :=
    fun U => after_of_writes_sub (W := linOpsW ++ (softOpsW ++ (logitOpsW ++ soft2OpsW))) _ U (forall_writes_sub_of_map rfl) (by decide)
  rw [h, ← List.append_assoc, after_append, after_append, pad1_at, sel_at, after_append, hh, hk _ main_v39 (by decide),
    hk _ main_arg1 (by decide), soft2_upto, he]
  rfl

/-- The rest pools three times. -/
theorem part1_mask (x : FVec F S4x512x2048 .f32) (h : V (Proc.devRef .tc main_v48) = padF (F := F) x) :
    after part1 V (Proc.devRef .tc main_v86) = poolF (F := F) (poolF (poolF x)) := by
  simp only [part1, after_append]
  rw [mid3_at, half3_at, sort3_at, stack3_at, pad3_at, c2_keep, mid2_at, half2_at, sort2_at, stack2_at, pad2_at, c1_keep,
    mid1_at, half1_at, sort1_at, stack1_at, h]
  rfl

/-- The whole run leaves the posterior. -/
theorem ops_post : after ops V (Proc.devRef .tc main_v16) = postV V := by
  rw [ops, after_append, part1_keep _ _ (by decide), part0_post]

/-- The whole run leaves the selected spectrum, pooled three times. -/
theorem ops_mask : after ops V (Proc.devRef .tc main_v86)
    = poolF (F := F) (poolF (poolF (sampF (postV V) (V (Proc.devRef .tc main_arg2)) (V (Proc.devRef .tc main_arg1))))) := by
  rw [ops, after_append]
  exact part1_mask _ _ (part0_pad V)

/-- The whole run keeps a buffer that no operation writes. -/
theorem ops_keep (r : Ref sig .tc) (h0 : r ∉ part0W) (h1 : r ∉ part1W) :
    after ops V (Proc.devRef .tc r) = V (Proc.devRef .tc r) := by
  rw [ops, after_append, part1_keep _ _ h1, part0_keep _ _ h0]

/-- From any memory with zero counters, every execution of the reference ends with its two results as
    these functions of the arguments, and with the arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v16) = postV (launchContents m c)
      ∧ r.2.mem ((c.tc : Thread nD τ).loc main_v86)
        = poolF (F := F) (poolF (poolF (sampF (postV (launchContents m c)) (launchContents m c (Proc.devRef .tc main_arg2))
            (launchContents m c (Proc.devRef .tc main_arg1)))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v16).trans (ops_post _), (h c main_v86).trans (ops_mask _),
      (h c main_arg0).trans (ops_keep _ main_arg0 (by decide) (by decide)),
      (h c main_arg1).trans (ops_keep _ main_arg1 (by decide) (by decide)),
      (h c main_arg2).trans (ops_keep _ main_arg2 (by decide) (by decide)),
      (h c main_arg3).trans (ops_keep _ main_arg3 (by decide) (by decide)),
      (h c main_arg4).trans (ops_keep _ main_arg4 (by decide) (by decide))⟩)
    (run_seq scopedRefs_eq scopedSems_eq defs main (fun _ => ops) main_eq (fun _ => ops_sub) m ρ fun _ => ops_fresh)

end Cert.Ref

end
-- ==== Proof.Math.Median.lean ====
module

public import Mathlib.Algebra.BigOperators.Fin
public import Mathlib.Order.Lattice
public import Mathlib.Tactic.Tauto

/-!
The median of five elements of a linear order: the network of minima and maxima that the kernel
evaluates names the third element of the sorted five.
-/

@[expose] public section

namespace Cert.Math

variable {α : Type*} [LinearOrder α]

/-- The network: of two pairs the larger of the minima and the smaller of the maxima, and then the middle
    of these two and the fifth element. -/
def med5 (z0 z1 z2 z3 z4 : α) : α :=
  max (min (min (max z0 z1) (max z3 z4)) z2) (min (max (min (max z0 z1) (max z3 z4)) z2) (max (min z0 z1) (min z3 z4)))

/-- How many of five elements are at least a threshold. -/
def atLeast (c : α) (f : Fin 5 → α) : ℕ := ∑ i, if c ≤ f i then 1 else 0

/-- Counting does not depend on the order of the five. -/
theorem atLeast_comp (c : α) (f : Fin 5 → α) (σ : Fin 5 → Fin 5) (hσ : Function.Bijective σ) :
    atLeast c (f ∘ σ) = atLeast c f :=
  Equiv.sum_comp (Equiv.ofBijective σ hσ) fun i => if c ≤ f i then 1 else 0

/-- Of a sorted five the third is at least a threshold exactly where three of them are. -/
theorem le_third_iff (c : α) (g : Fin 5 → α) (hg : Monotone g) : c ≤ g 2 ↔ 3 ≤ atLeast c g := by
  have h01 : g 0 ≤ g 1 := hg (by decide)
  have h12 : g 1 ≤ g 2 := hg (by decide)
  have h23 : g 2 ≤ g 3 := hg (by decide)
  have h34 : g 3 ≤ g 4 := hg (by decide)
  rw [atLeast, Fin.sum_univ_five]
  by_cases p2 : c ≤ g 2
  · have p3 := p2.trans h23
    have p4 := p3.trans h34
    simp only [p2, p3, p4, if_true, true_iff]
    omega
  · have p1 : ¬ c ≤ g 1 := fun h => p2 (h.trans h12)
    have p0 : ¬ c ≤ g 0 := fun h => p1 (h.trans h01)
    simp only [p0, p1, p2, if_false, false_iff]
    split_ifs <;> omega

/-- The network's value is at least a threshold exactly where three of the five are. -/
theorem le_med5_iff (c : α) (f : Fin 5 → α) : c ≤ med5 (f 0) (f 1) (f 2) (f 3) (f 4) ↔ 3 ≤ atLeast c f := by
  rw [atLeast, Fin.sum_univ_five]
  simp only [med5, le_max_iff, le_min_iff]
  by_cases p0 : c ≤ f 0 <;> by_cases p1 : c ≤ f 1 <;> by_cases p2 : c ≤ f 2 <;> by_cases p3 : c ≤ f 3 <;> by_cases p4 : c ≤ f 4 <;>
    simp [p0, p1, p2, p3, p4]

/-- The third element of the sorted five is the network's value. -/
theorem third_eq_med5 (f : Fin 5 → α) (σ : Fin 5 → Fin 5) (hσ : Function.Bijective σ) (hs : Monotone (f ∘ σ)) :
    f (σ 2) = med5 (f 0) (f 1) (f 2) (f 3) (f 4) :=
  eq_of_forall_le_iff fun c => by
    rw [le_med5_iff, ← atLeast_comp c f σ hσ]
    exact le_third_iff c (f ∘ σ) hs

end Cert.Math

end
-- ==== Proof.Math.Pool.lean ====
module

public import proofs.«01_k».proof.Proof.Math.Median
public import Mathlib.Data.EReal.Basic

/-!
The median pool of a row of 2048 elements, by the elements that it reads: five neighbours, the row
reflected at both ends.
-/

@[expose] public section

namespace Cert.Math

/-- The position that the `k`th of the five neighbours of `t` has in the row. -/
def refl (t : Fin 2048) (k : Fin 5) : Fin 2048 :=
  ⟨if t.val + k.val < 2 then 2 - (t.val + k.val) else if t.val + k.val < 2050 then t.val + k.val - 2 else 4096 - (t.val + k.val), by
    split_ifs <;> omega⟩

theorem refl_val (t : Fin 2048) (k : Fin 5) :
    (refl t k).val = if t.val + k.val < 2 then 2 - (t.val + k.val)
      else if t.val + k.val < 2050 then t.val + k.val - 2 else 4096 - (t.val + k.val) := rfl

/-- The middle neighbour is the position itself. -/
theorem refl_two (t : Fin 2048) : refl t 2 = t := by
  apply Fin.ext
  rw [refl_val]
  have := t.isLt
  simp only [Fin.val_two]
  split_ifs <;> omega

/-- The median of the five neighbours. -/
noncomputable def med (f : Fin 2048 → EReal) (t : Fin 2048) : EReal :=
  med5 (f (refl t 0)) (f (refl t 1)) (f (refl t 2)) (f (refl t 3)) (f (refl t 4))

end Cert.Math
-- ==== Proof.Kern.Pool.lean ====
module

public import proofs.«01_k».proof.Proof.Gen.KernelIdeal.Frame
public import proofs.«01_k».proof.Proof.Math.Pool
public import Idealize.ShloMosaic.Lib.Pointwise

/-!
The kernel's median pool over the frames of one batch element: the network of minima and maxima over
the four shifted copies and the array itself is, element by element, the median of the five
neighbours. The body pools three times.
-/

@[expose] public section

set_option maxRecDepth 16384

noncomputable section

namespace Cert.Kern

open Cert.KernelIdeal Cert.KernelIdeal.Gen Idealize.ShloMosaic Cert.Math

variable {F : FTy → Type} [FloatOps F]

/-- The array shifted by two positions to the right, reflected at the left end. -/
def shift0 (v : FVec F S512x2048 .bf16) : FVec F S512x2048 .bf16 :=
  concatenate S512x2048 1 [⟨S512x1, extractStridedSlice S512x1 ![0, 2] v slices_S512x2048_o0_2_S512x1⟩,
    ⟨S512x1, extractStridedSlice S512x1 ![0, 1] v slices_S512x2048_o0_1_S512x1⟩,
    ⟨S512x2046, extractStridedSlice S512x2046 ![0, 0] v slices_S512x2048_o0_0_S512x2046⟩]
    concatenates_S512x1_S512x1_S512x2046_S512x2048_d1

/-- The array shifted by one position to the right, reflected at the left end. -/
def shift1 (v : FVec F S512x2048 .bf16) : FVec F S512x2048 .bf16 :=
  concatenate S512x2048 1 [⟨S512x1, extractStridedSlice S512x1 ![0, 1] v slices_S512x2048_o0_1_S512x1⟩,
    ⟨S512x2047, extractStridedSlice S512x2047 ![0, 0] v slices_S512x2048_o0_0_S512x2047⟩]
    concatenates_S512x1_S512x2047_S512x2048_d1

/-- The array shifted by one position to the left, reflected at the right end. -/
def shift3 (v : FVec F S512x2048 .bf16) : FVec F S512x2048 .bf16 :=
  concatenate S512x2048 1 [⟨S512x2047, extractStridedSlice S512x2047 ![0, 1] v slices_S512x2048_o0_1_S512x2047⟩,
    ⟨S512x1, extractStridedSlice S512x1 ![0, 2046] v slices_S512x2048_o0_2046_S512x1⟩]
    concatenates_S512x2047_S512x1_S512x2048_d1

/-- The array shifted by two positions to the left, reflected at the right end. -/
def shift4 (v : FVec F S512x2048 .bf16) : FVec F S512x2048 .bf16 :=
  concatenate S512x2048 1 [⟨S512x2046, extractStridedSlice S512x2046 ![0, 2] v slices_S512x2048_o0_2_S512x2046⟩,
    ⟨S512x1, extractStridedSlice S512x1 ![0, 2046] v slices_S512x2048_o0_2046_S512x1⟩,
    ⟨S512x1, extractStridedSlice S512x1 ![0, 2045] v slices_S512x2048_o0_2045_S512x1⟩]
    concatenates_S512x2046_S512x1_S512x1_S512x2048_d1

/-- One pool: the network over the shifted copies. -/
def poolK (v : FVec F S512x2048 .bf16) : FVec F S512x2048 .bf16 :=
  maximumf (minimumf (minimumf (maximumf (shift0 v) (shift1 v)) (maximumf (shift3 v) (shift4 v))) v)
    (minimumf (maximumf (minimumf (maximumf (shift0 v) (shift1 v)) (maximumf (shift3 v) (shift4 v))) v)
      (maximumf (minimumf (shift0 v) (shift1 v)) (minimumf (shift3 v) (shift4 v))))

/-- The first two pools of the body. -/
theorem pay17_eq (v : FVec F S512x2048 .bf16) : k0_pay17 v = poolK (poolK v) := rfl

/-- What the body stores as its second result: the third pool, widened. -/
theorem pay1_eq (v : FVec F S512x2048 .bf16) :
    k0_pay1 (k0_pay17 v) (k0_pay18 v) (k0_pay19 v) (k0_pay20 v) (k0_pay21 v) (k0_pay22 v)
      = shapeCast S1x512x2048 (extf .f32 (poolK (k0_pay17 v)) bitsLt_bf16_f32) shapeCasts_S512x2048_S1x512x2048 := rfl

/-! ## Element by element -/

variable (v : FVec Ideal S512x2048 .bf16) (c : Fin 512) (t : Fin 2048)

theorem shift0_apply : shift0 v (ix2 c t) = v (ix2 c (refl t 0)) := by
  pointwise [shift0]
  have := t.isLt
  split_ifs <;> refine congrArg v (congrArg (ix2 c) (Fin.ext ?_)) <;> rw [refl_val] <;> simp <;> split_ifs <;> omega

theorem shift1_apply : shift1 v (ix2 c t) = v (ix2 c (refl t 1)) := by
  pointwise [shift1]
  have := t.isLt
  split_ifs <;> refine congrArg v (congrArg (ix2 c) (Fin.ext ?_)) <;> rw [refl_val] <;> simp <;> split_ifs <;> omega

theorem shift3_apply : shift3 v (ix2 c t) = v (ix2 c (refl t 3)) := by
  pointwise [shift3]
  have := t.isLt
  split_ifs <;> refine congrArg v (congrArg (ix2 c) (Fin.ext ?_)) <;> rw [refl_val] <;> simp <;> split_ifs <;> omega

theorem shift4_apply : shift4 v (ix2 c t) = v (ix2 c (refl t 4)) := by
  pointwise [shift4]
  have := t.isLt
  split_ifs <;> refine congrArg v (congrArg (ix2 c) (Fin.ext ?_)) <;> rw [refl_val] <;> simp <;> split_ifs <;> omega

/-- The network's value at a position is the median of the five neighbours. -/
theorem poolK_apply : poolK v (ix2 c t) = med (fun s => v (ix2 c s)) t := by
  simp only [med, med5, refl_two, ← shift0_apply, ← shift1_apply, ← shift3_apply, ← shift4_apply]
  rfl

end Cert.Kern

end
-- ==== Proof.Math.Lits.lean ====
module

public import Idealize.ShloMosaic.PureOps.Ideal

/-!
The real values of the literals that the two programs hold.
-/

@[expose] public section

namespace Cert.Math

open Idealize.ShloMosaic

/-- A half. -/
theorem lit_half : Ideal.ofBits .f32 0x3F000000#32 = ((1 / 2 : ℝ) : EReal) := by
  simp [Ideal.ofBits, Ideal.ieee, -EReal.coe_mul]; norm_num

/-- Five. -/
theorem lit_five : Ideal.ofBits .f32 0x40A00000#32 = ((5 : ℝ) : EReal) := by
  simp [Ideal.ofBits, Ideal.ieee, -EReal.coe_mul]; norm_num

/-- One. -/
theorem lit_one : Ideal.ofBits .f32 0x3F800000#32 = ((1 : ℝ) : EReal) := by
  simp [Ideal.ofBits, Ideal.ieee, -EReal.coe_mul]; norm_num

/-- Zero. -/
theorem lit_zero : Ideal.ofBits .f32 0x00000000#32 = ((0 : ℝ) : EReal) := by
  simp [Ideal.ofBits, Ideal.ieee, -EReal.coe_mul]

/-- Ten: the scale of the logits. -/
theorem lit_ten : Ideal.ofBits .f32 0x41200000#32 = ((10 : ℝ) : EReal) := by
  simp [Ideal.ofBits, Ideal.ieee, -EReal.coe_mul]; norm_num

/-- The temperature, a positive real. -/
theorem lit_temp : ∃ r : ℝ, 0 < r ∧ Ideal.ofBits .f32 0x3F4CCCCD#32 = (r : EReal) := by
  refine ⟨13421773 / 16777216, by norm_num, ?_⟩
  simp [Ideal.ofBits, Ideal.ieee, -EReal.coe_mul]; norm_num

/-- The small constant under the logarithms, a positive real. -/
theorem lit_eps : ∃ r : ℝ, 0 < r ∧ Ideal.ofBits .f32 0x1E3CE508#32 = (r : EReal) := by
  refine ⟨_, ?_, by simp [Ideal.ofBits, Ideal.ieee, -EReal.coe_mul]; rfl⟩
  norm_num

/-- Minus infinity. -/
theorem lit_bot : Ideal.ofBits .f32 0xFF800000#32 = ⊥ := by
  simp [Ideal.ofBits, Ideal.ieee]

/-- Plus infinity. -/
theorem lit_top : Ideal.ofBits .f32 0x7F800000#32 = ⊤ := by
  simp [Ideal.ofBits, Ideal.ieee]

end Cert.Math
-- ==== Proof.Math.Scalar.lean ====
module

public import proofs.«01_k».proof.Proof.Math.Lits

/-!
The scalar functions of the two programs on the extended reals: the softmax of two values, the noisy
logit, the selector of the second class; and that on real arguments they are real.
-/

@[expose] public section

noncomputable section

namespace Cert.Math

open Idealize.ShloMosaic

/-- The softmax of `z0` and `z1` at the one of them that is `z`. -/
def sm (z0 z1 z : EReal) : EReal :=
  Ideal.div (Ideal.exp (z - max z0 z1)) (Ideal.exp (z0 - max z0 z1) + Ideal.exp (z1 - max z0 z1))

/-- The logit of a probability, with the noise that the uniform draw `u` makes, over the temperature. -/
def noisy (p u : EReal) : EReal :=
  Ideal.div (Ideal.log p + -Ideal.log (-Ideal.log (u + Ideal.ofBits .f32 0x1E3CE508#32) + Ideal.ofBits .f32 0x1E3CE508#32))
    (Ideal.ofBits .f32 0x3F4CCCCD#32)

/-- Whether the second class has the larger probability, as a number. -/
def hot (y0 y1 : EReal) : EReal := if y0 < y1 then 1 else 0

theorem coe_max (a b : ℝ) : max (a : EReal) (b : EReal) = ((max a b : ℝ) : EReal) :=
  (EReal.coe_strictMono.monotone.map_max).symm

/-- The softmax of two reals is a positive real. -/
theorem sm_real (a b z : ℝ) : ∃ p : ℝ, 0 < p ∧ sm a b z = p := by
  have h : 0 < Real.exp (a - max a b) + Real.exp (b - max a b) := add_pos (Real.exp_pos _) (Real.exp_pos _)
  refine ⟨Real.exp (z - max a b) * (1 / (Real.exp (a - max a b) + Real.exp (b - max a b))), ?_, ?_⟩
  · exact mul_pos (Real.exp_pos _) (one_div_pos.2 h)
  · unfold sm
    simp only [coe_max, ← EReal.coe_sub, Ideal.exp_coe, ← EReal.coe_add]
    rw [Ideal.div_coe h.ne', ← EReal.coe_mul]

/-- The logarithm of a positive real is real. -/
theorem log_pos {r : ℝ} (h : 0 < r) : Ideal.log (r : EReal) = (Real.log r : EReal) := by
  rw [Ideal.log_coe, if_neg h.not_ge]

/-- The noisy logit of a positive real under a draw from the unit interval is real. -/
theorem noisy_real (p u : ℝ) (hp : 0 < p) (h0 : 0 ≤ u) (h1 : u ≤ 1) : ∃ r : ℝ, noisy p u = r := by
  obtain ⟨e, he, hE⟩ := lit_eps
  obtain ⟨T, hT, hTe⟩ := lit_temp
  have hu : 0 < u + e := by linarith
  have hlog : Real.log (u + e) < e := by
    rcases eq_or_lt_of_le h1 with h | h
    · subst h
      have := Real.log_lt_sub_one_of_pos hu (by linarith)
      linarith
    · have := Real.log_le_sub_one_of_pos hu
      linarith
  have hv : 0 < -Real.log (u + e) + e := by linarith
  refine ⟨(Real.log p + -Real.log (-Real.log (u + e) + e)) * (1 / T), ?_⟩
  unfold noisy
  rw [hE, hTe, ← EReal.coe_add, log_pos hu, ← EReal.coe_neg, ← EReal.coe_add, log_pos hv, log_pos hp,
    ← EReal.coe_neg, ← EReal.coe_add, Ideal.div_coe hT.ne', ← EReal.coe_mul]

/-- Subtracting a real and adding it again changes nothing. -/
theorem sub_add_real (a : EReal) (r : ℝ) : a - r + r = a := by
  induction a with
  | bot => simp
  | top => simp
  | coe s => rw [← EReal.coe_sub, ← EReal.coe_add]; congr 1; ring

/-- The larger of two values, folded from minus infinity. -/
theorem fold_max_two (f : Fin 2 → EReal) : max ⊥ (Finset.fold max ⊥ f Finset.univ) = max (f 0) (f 1) := by
  rw [max_eq_right bot_le, Fin.univ_succ, Finset.fold_cons]
  simp

end Cert.Math

end
-- ==== Proof.Kern.Pay.lean ====
module

public import proofs.«01_k».proof.Proof.Kern.Pool
public import proofs.«01_k».proof.Proof.Math.Scalar

/-!
What the kernel's body computes from the blocks of one batch element, element by element: the posterior
of the two classes, and the three times pooled selected spectrum.
-/

@[expose] public section

set_option maxRecDepth 16384

noncomputable section

namespace Cert.Kern

open Cert.KernelIdeal Cert.KernelIdeal.Gen Idealize.ShloMosaic Cert.Math

/-- The logit of the class of row `k` at frame `t`, its bias being `b`. -/
def lin (x : Vec Ideal S1x512x2048 .f32) (w : Vec Ideal S2x512 .f32) (b : EReal) (t : Fin 2048) (k : Fin 2) : EReal :=
  Ideal.div (∑ c : Fin 512, w (ix2 k c) * x (ix3 0 c t) + b) (Ideal.ofBits .f32 0x41200000#32)

variable (x : Vec Ideal S1x512x2048 .f32) (w : Vec Ideal S2x512 .f32) (b0 b1 : Elt Ideal .f32) (t : Fin 2048)

/-- The first class's logit. -/
theorem pay3_apply : k0_pay3 (F := Ideal) x w b0 (ix2 0 t) = lin x w b0 t 0 := by
  pointwise [k0_pay3, k0_pay2]
  rfl

/-- The second class's logit. -/
theorem pay4_apply : k0_pay4 (F := Ideal) x w b1 (ix2 0 t) = lin x w b1 t 1 := by
  pointwise [k0_pay4, k0_pay2]
  rfl

/-- The first class's posterior. -/
theorem pay9_apply : k0_pay9 (F := Ideal) x w b0 b1 (ix2 0 t) = sm (lin x w b0 t 0) (lin x w b1 t 1) (lin x w b0 t 0) := by
  pointwise [k0_pay9, k0_pay8, k0_pay7, k0_pay6, k0_pay5]
  simp only [pay3_apply, pay4_apply]
  rfl

/-- The second class's posterior. -/
theorem pay10_apply : k0_pay10 (F := Ideal) x w b0 b1 (ix2 0 t) = sm (lin x w b0 t 0) (lin x w b1 t 1) (lin x w b1 t 1) := by
  pointwise [k0_pay10, k0_pay8, k0_pay7, k0_pay6, k0_pay5]
  simp only [pay3_apply, pay4_apply]
  rfl

theorem pay11_apply : k0_pay11 (F := Ideal) x w b0 b1 (ix3 0 0 t) = sm (lin x w b0 t 0) (lin x w b1 t 1) (lin x w b0 t 0) := by
  pointwise [k0_pay11]
  rw [pay9_apply]

theorem pay12_apply : k0_pay12 (F := Ideal) x w b0 b1 (ix3 0 0 t) = sm (lin x w b0 t 0) (lin x w b1 t 1) (lin x w b1 t 1) := by
  pointwise [k0_pay12]
  rw [pay10_apply]

/-- The logarithm of the first class's posterior. -/
theorem pay13_apply : k0_pay13 (F := Ideal) x w b0 b1 (ix2 0 t) = Ideal.log (sm (lin x w b0 t 0) (lin x w b1 t 1) (lin x w b0 t 0)) := by
  pointwise [k0_pay13]
  rw [pay9_apply]

/-- The logarithm of the second class's posterior. -/
theorem pay14_apply : k0_pay14 (F := Ideal) x w b0 b1 (ix2 0 t) = Ideal.log (sm (lin x w b0 t 0) (lin x w b1 t 1) (lin x w b1 t 1)) := by
  pointwise [k0_pay14]
  rw [pay10_apply]

/-- The first row of draws, without its unit axis. -/
theorem pay15_apply (u : Vec Ideal S1x1x2048 .f32) : k0_pay15 (F := Ideal) u (ix2 0 t) = u (ix3 0 0 t) := by
  pointwise [k0_pay15]

/-- The selected spectrum: the spectrum where the second class has the larger noisy probability, zero elsewhere. The
    arguments are the logarithms of the posteriors, the two rows of draws and the spectrum. -/
theorem pay16_apply (l0 l1 u0 : FVec Ideal S1x2048 .f32) (u1 : Vec Ideal S1x1x2048 .f32) (e : Vec Ideal S1x512x2048 .f32)
    (c : Fin 512) (p0 p1 : EReal) (h0 : l0 (ix2 0 t) = Ideal.log p0) (h1 : l1 (ix2 0 t) = Ideal.log p1) :
    k0_pay16 (F := Ideal) l0 l1 u0 u1 e (ix2 c t)
      = e (ix3 0 c t) * hot (sm (noisy p0 (u0 (ix2 0 t))) (noisy p1 (u1 (ix3 0 0 t))) (noisy p0 (u0 (ix2 0 t))))
          (sm (noisy p0 (u0 (ix2 0 t))) (noisy p1 (u1 (ix3 0 0 t))) (noisy p1 (u1 (ix3 0 0 t)))) := by
  pointwise [k0_pay16]
  simp only [zero_sub, h0, h1]
  rfl

/-- The block of the mask that the body stores, from the selected spectrum `v`: pooled three times. -/
theorem pay1_apply (v : FVec Ideal S512x2048 .bf16) (c : Fin 512) :
    k0_pay1 (F := Ideal) (k0_pay17 v) (k0_pay18 v) (k0_pay19 v) (k0_pay20 v) (k0_pay21 v) (k0_pay22 v) (ix3 0 c t)
      = med (med (med (fun s => v (ix2 c s)))) t := by
  rw [pay1_eq, pay17_eq]
  pointwise
  simp only [poolK_apply]

end Cert.Kern

end
-- ==== Proof.Ref.Soft.lean ====
module

public import proofs.«01_k».proof.Proof.Ref.Stages
public import proofs.«01_k».proof.Proof.Math.Scalar
public import Idealize.ShloMosaic.Lib.Pointwise

/-!
The reference's linear layer, softmax, noisy logits and selected spectrum, element by element.
-/

@[expose] public section

set_option maxRecDepth 16384

noncomputable section

namespace Cert.Ref

open Cert.ReferenceIdeal Cert.ReferenceIdeal.Gen Idealize.ShloMosaic Cert.Math

variable (i : Fin 4) (t : Fin 2048) (k : Fin 2)

/-- The linear layer: the frame's product with the class's row, the bias added, over the scale. -/
theorem linF_apply (x : FVec Ideal S4x512x2048 .f32) (w : FVec Ideal S2x512 .f32) (b : FVec Ideal S2 .f32) :
    linF x w b (ix3 i t k)
      = Ideal.div (∑ c : Fin 512, x (ix3 i c t) * w (ix2 k c) + b (ix1 k)) (Ideal.ofBits .f32 0x41200000#32) := by
  pointwise [linF]

/-- The softmax over the two classes. -/
theorem softF_apply (z : FVec Ideal S4x2048x2 .f32) :
    softF z (ix3 i t k) = sm (z (ix3 i t 0)) (z (ix3 i t 1)) (z (ix3 i t k)) := by
  pointwise [softF, expF]
  rw [lit_bot, fold_max_two, Fin.sum_univ_two]
  rfl

/-- The noisy logits. -/
theorem logitF_apply (p u : FVec Ideal S4x2048x2 .f32) :
    logitF p u (ix3 i t k) = noisy (p (ix3 i t k)) (u (ix3 i t k)) := by
  pointwise [logitF]
  rfl

/-- The one-hot form of a class. -/
theorem hotF_apply (n : IVec S4x2048 32) :
    hotF (F := Ideal) n (ix3 i t 1) = if n (ix2 i t) = 1#32 then 1 else 0 := by
  pointwise [hotF]
  show (((IntOp.cmpi .eq (n (ix2 i t)) 1#32).toNat : ℝ) : EReal) = _
  by_cases h : n (ix2 i t) = 1#32 <;> simp [IntOp.cmpi, h]

/-- The straight-through selector of the second class, on the spectrum. -/
theorem selF_apply (h y : FVec Ideal S4x2048x2 .f32) (e : FVec Ideal S4x512x2048 .f32) (c : Fin 512) :
    selF h y e (ix3 i c t) = (h (ix3 i t 1) - y (ix3 i t 1) + y (ix3 i t 1)) * e (ix3 i c t) := by
  pointwise [selF]

/-! ## The class of the larger probability -/

/-- The reduction's body on extended reals. -/
theorem reducer_eq (a b : EReal × BitVec 32) :
    reducer_argmax_f32_i32 (F := Ideal) a b
      = (if b.1 < a.1 then a.1 else b.1, if b.1 < a.1 ∨ (a.1 = b.1 ∧ a.2.slt b.2) then a.2 else b.2) := by
  unfold reducer_argmax_f32_i32
  simp only [Ideal.cmpf_def, Ideal.cmp, IntOp.cmpi, Scalar.select, IntOp.ori, IntOp.andi]
  by_cases h : b.1 < a.1 <;> by_cases h' : a.1 = b.1 <;> by_cases h'' : a.2.slt b.2 = true <;> simp [h, h', h'']

/-- The class that the argmax selects is the second one exactly where its value is the larger. -/
theorem argF_apply (y : FVec Ideal S4x2048x2 .f32) :
    argF y (ix2 i t) = if y (ix3 i t 0) < y (ix3 i t 1) then 1#32 else 0#32 := by
  unfold argF argInds
  rw [Ideal.argReduce_eq_reduce2]
  unfold Host.reduce2
  have hmem : ∀ n : Fin S4x2048x2.numel, reducesTo_S4x2048x2_S4x2048_d2.drop (S4x2048x2.rowMajor.symm n) = ix2 i t
      ↔ n = S4x2048x2.rowMajor (ix3 i t 0) ∨ n = S4x2048x2.rowMajor (ix3 i t 1) := by
    intro n
    rw [Shape.ReducesTo.fiber_r3_a2]
    constructor
    · rintro ⟨k, hk⟩
      have : n = S4x2048x2.rowMajor (ix3 i t k) := by
        rw [← Equiv.symm_apply_eq]; exact hk.symm
      fin_cases k
      · exact .inl this
      · exact .inr this
    · rintro (h | h)
      · exact ⟨0, by rw [h, Equiv.symm_apply_apply]; rfl⟩
      · exact ⟨1, by rw [h, Equiv.symm_apply_apply]; rfl⟩
  have hne : S4x2048x2.rowMajor (ix3 i t 0) ≠ S4x2048x2.rowMajor (ix3 i t 1) := by
    intro h
    have := congrFun (S4x2048x2.rowMajor.injective h) 2
    exact absurd (show (0 : Fin 2) = 1 from this) (by decide)
  generalize hL : List.filter _ (List.finRange S4x2048x2.numel) = L
  have hm : ∀ n, n ∈ L ↔ n = S4x2048x2.rowMajor (ix3 i t 0) ∨ n = S4x2048x2.rowMajor (ix3 i t 1) := by
    intro n
    rw [← hL, List.mem_filter, decide_eq_true_eq, hmem]
    exact and_iff_right (List.mem_finRange n)
  have hnd : L.Nodup := by rw [← hL]; exact (List.nodup_finRange _).filter _
  have hperm : L.Perm [S4x2048x2.rowMajor (ix3 i t 0), S4x2048x2.rowMajor (ix3 i t 1)] :=
    (List.perm_ext_iff_of_nodup hnd (by simpa using hne)).2 (fun n => by rw [hm]; simp)
  have hcase : L = [S4x2048x2.rowMajor (ix3 i t 0), S4x2048x2.rowMajor (ix3 i t 1)]
      ∨ L = [S4x2048x2.rowMajor (ix3 i t 1), S4x2048x2.rowMajor (ix3 i t 0)] := by
    obtain ⟨p, q, rfl⟩ := List.length_eq_two.1 hperm.length_eq
    have hpq : p ≠ q := by simpa using hnd
    rcases (hm p).1 (by simp) with rfl | rfl <;> rcases (hm q).1 (by simp) with rfl | rfl
    · exact absurd rfl hpq
    · exact .inl rfl
    · exact .inr rfl
    · exact absurd rfl hpq
  have e0 : ∀ k : Fin 2, iotaInDim S4x2048x2 32 2 (ix3 i t k) = BitVec.ofNat 32 k.val := fun k => rfl
  have eb : constant (F := Ideal) S_ .f32 0xFF800000#32 (Shape.Idx.first h_S_) = ⊥ := lit_bot
  have ei : constantI S_ 32 0#32 (Shape.Idx.first h_S_) = 0#32 := rfl
  generalize hy0 : y (ix3 i t 0) = a
  generalize hy1 : y (ix3 i t 1) = b
  have hb : ∀ a : EReal, ¬ a < ⊥ := fun a => not_lt_bot
  rcases hcase with rfl | rfl
  · simp only [List.foldl_cons, List.foldl_nil, Equiv.symm_apply_apply, e0, eb, ei, reducer_eq, hy0, hy1, hb, if_false]
    rcases lt_trichotomy a b with h | h | h
    · simp [h, h.not_gt, h.ne]
    · simp [h]
    · simp [h, h.not_gt, h.ne']
  · simp only [List.foldl_cons, List.foldl_nil, Equiv.symm_apply_apply, e0, eb, ei, reducer_eq, hy0, hy1, hb, if_false]
    rcases lt_trichotomy a b with h | h | h
    · have : b ≠ ⊥ := (bot_le.trans_lt h).ne'
      simp [h, this.symm]
    · by_cases hbb : ⊥ = b <;> simp [h, hbb]
    · simp [h, h.not_gt, h.ne]

end Cert.Ref

end
-- ==== Proof.Ref.Pad.lean ====
module

public import proofs.«01_k».proof.Proof.Ref.Stages
public import proofs.«01_k».proof.Proof.Math.Pool
public import Idealize.ShloMosaic.Lib.Pointwise

/-!
The reference's reflected padding and its stack of five windows, element by element: the stack's `k`th
window holds at each position that position's `k`th neighbour.
-/

@[expose] public section

set_option maxRecDepth 16384

noncomputable section

namespace Cert.Ref

open Cert.ReferenceIdeal Cert.ReferenceIdeal.Gen Idealize.ShloMosaic Cert.Math

variable (x : FVec Ideal S4x512x2048 .f32) (i : Fin 4) (c : Fin 512)

/-- The array padded on the left. -/
theorem padLeft_apply (n : Fin 2050) :
    padLeft x (ix3 i c n) = x (ix3 i c ⟨if n.val < 2 then 2 - n.val else n.val - 2, by have := n.isLt; split_ifs <;> omega⟩) := by
  pointwise [padLeft, cat2050]
  have := n.isLt
  by_cases h : n.val < 2
  all_goals
    simp only [h, ↓reduceDIte, ↓reduceIte, show ¬ (0 : Fin 3) ∈ ([2] : List (Fin 3)) by decide,
      show ¬ (1 : Fin 3) ∈ ([2] : List (Fin 3)) by decide, show (2 : Fin 3) ∈ ([2] : List (Fin 3)) by decide, Fin.rev]
  refine congrArg x (congrArg (ix3 i c) (Fin.ext ?_))
  dsimp only
  omega

/-- The array padded on both sides. -/
theorem padF_apply (n : Fin 2052) :
    padF x (ix3 i c n) = x (ix3 i c ⟨if n.val < 2 then 2 - n.val else if n.val < 2050 then n.val - 2 else 4096 - n.val, by
      have := n.isLt; split_ifs <;> omega⟩) := by
  pointwise [padF, cat2052]
  have := n.isLt
  by_cases h : n.val < 2050
  all_goals
    simp only [h, ↓reduceDIte, show ¬ (0 : Fin 3) ∈ ([2] : List (Fin 3)) by decide, ↓reduceIte,
      show ¬ (1 : Fin 3) ∈ ([2] : List (Fin 3)) by decide, show (2 : Fin 3) ∈ ([2] : List (Fin 3)) by decide, Fin.rev]
    rw [padLeft_apply]
  refine congrArg x (congrArg (ix3 i c) (Fin.ext ?_))
  dsimp only
  split_ifs <;> omega

/-- The stack's `k`th window. -/
theorem stackF_apply (y : FVec Ideal S4x512x2052 .f32) (t : Fin 2048) (k : Fin 5) :
    stackF y (ix4 i c t k) = y (ix3 i c ⟨k.val + t.val, by omega⟩) := by
  fin_cases k <;> pointwise [stackF, cat5] <;> simp

/-- The stack of the padded array holds the five neighbours. -/
theorem stack_pad_apply (t : Fin 2048) (k : Fin 5) :
    stackF (padF x) (ix4 i c t k) = x (ix3 i c (refl t k)) := by
  rw [stackF_apply, padF_apply]
  refine congrArg x (congrArg (ix3 i c) (Fin.ext ?_))
  rw [refl_val]
  simp only [Nat.add_comm k.val t.val]

end Cert.Ref

end
-- ==== Proof.Ref.Sort.lean ====
module

public import proofs.«01_k».proof.Proof.Ref.Pad
public import proofs.«01_k».proof.Proof.Math.Lits
public import Idealize.ShloMosaic.Lib.SortFacts

/-!
The reference's median: it sorts the five elements of each window and takes the mean of the elements
at the rounded down and at the rounded up position, both the third. So one pool holds at each position
the median of its five neighbours.
-/

@[expose] public section

set_option maxRecDepth 16384

noncomputable section

namespace Cert.Ref

open Cert.ReferenceIdeal Cert.ReferenceIdeal.Gen Idealize.ShloMosaic Cert.Math

/-! ## The sort -/

/-- The comparator is the order of the extended reals. -/
theorem comparator_eq (l r : EReal) : (comparator_f32_d3 (F := Ideal) l r == 1#1) = decide (l < r) := by
  have key : ∀ x : EReal, Scalar.select (FloatOps.cmpf (F := Ideal) (φ := .f32) .une x x) (FloatOps.ofBits (F := Ideal) .f32 0x7FC00000#32)
      (Scalar.select (FloatOps.cmpf (F := Ideal) (φ := .f32) .oeq x (FloatOps.ofBits (F := Ideal) .f32 0x00000000#32))
        (FloatOps.ofBits (F := Ideal) .f32 0x00000000#32) x) = x := by
    intro x
    simp only [Ideal.cmpf_def, Ideal.cmp, Ideal.ofBits_def, Ideal.ofBits_zero_f32, Scalar.select]
    by_cases h : x = 0 <;> simp [h]
  unfold comparator_f32_d3
  dsimp only
  rw [key l, key r]
  show (Ideal.cmpTotal .lt l r == 1#1) = _
  unfold Ideal.cmpTotal
  by_cases h : l < r <;> simp [Ideal.cmp, CmpDirection.ordered, h]

/-- No element compares unequal to itself, so no window holds an element that does. -/
theorem noNaN (w : FVec Ideal S4x512x2048x5 .f32) :
    Host.reduce IntOp.ori (cmpf .une w w) (constantI S_ 1 0#1) reducesTo_S4x512x2048x5_S4x512x2048_d3 h_S_ = fun _ => 0#1 := by
  have h0 : cmpf .une w w = fun _ => 0#1 := by
    funext j
    show Ideal.cmp .une (w j) (w j) = 0#1
    simp [Ideal.cmp]
  rw [h0]
  funext j
  unfold Host.reduce
  generalize List.filter _ _ = L
  show List.foldl (fun r n => IntOp.ori r 0#1) 0#1 L = 0#1
  induction L with
  | nil => rfl
  | cons a L ih => exact ih

/-- The third of the five sorted elements is their median. -/
theorem sortF_apply (w : FVec Ideal S4x512x2048x5 .f32) (i : Fin 4) (c : Fin 512) (t : Fin 2048) :
    sortF w (ix4 i c t 2) = med5 (w (ix4 i c t 0)) (w (ix4 i c t 1)) (w (ix4 i c t 2)) (w (ix4 i c t 3)) (w (ix4 i c t 4)) := by
  unfold sortF
  rw [noNaN]
  have hsel : select (broadcastInDim S4x512x2048x5 ![0, 1, 2, 3] bcast_S4x512x2048x1_S4x512x2048x5_0_1_2_3
        (broadcastInDim S4x512x2048x1 ![0, 1, 2] bcast_S4x512x2048_S4x512x2048x1_0_1_2 (fun _ : S4x512x2048.Idx => 0#1)))
      (broadcastInDim S4x512x2048x5 ![] bcast_S_S4x512x2048x5 (id (constant (F := Ideal) S_ .f32 0x7FC00000#32))) w = w := by
    funext j
    show Scalar.select 0#1 _ _ = _
    simp [Scalar.select]
  rw [hsel]
  have hal : ∀ k : Fin 5, Shape.Idx.along (s := S4x512x2048x5) (ix4 i c t 2) 3 k = ix4 i c t k := by
    intro k
    funext a
    fin_cases a <;> rfl
  let f : Fin 5 → EReal := fun k => w (ix4 i c t k)
  let R : Fin 5 → Fin 5 → Bool := fun k k' => decide (f k < f k')
  have hR : (fun k k' : Fin 5 => comparator_f32_d3 (F := Ideal) (w (Shape.Idx.along (s := S4x512x2048x5) (ix4 i c t 2) 3 k))
      (w (Shape.Idx.along (s := S4x512x2048x5) (ix4 i c t 2) 3 k')) == 1#1) = R := by
    funext k k'
    rw [hal, hal]
    exact comparator_eq _ _
  have hsort : Host.sort S4x512x2048x5 3 (comparator_f32_d3 (F := Ideal)) w (ix4 i c t 2) = f (sortedFrom R 2) := by
    unfold Host.sort
    rw [dif_pos (by decide)]
    show w (Shape.Idx.along (s := S4x512x2048x5) (ix4 i c t 2) 3 (sortedFrom (fun k k' : Fin 5 =>
      comparator_f32_d3 (F := Ideal) (w (Shape.Idx.along (s := S4x512x2048x5) (ix4 i c t 2) 3 k))
      (w (Shape.Idx.along (s := S4x512x2048x5) (ix4 i c t 2) 3 k')) == 1#1) (2 : Fin 5))) = _
    rw [hR]
    exact congrArg w (hal (sortedFrom R 2))
  rw [hsort]
  refine third_eq_med5 f (sortedFrom R) ⟨sortedFrom_injective R, sortedFrom_surjective R⟩ ?_
  refine monotone_iff_forall_lt.mpr fun a b hab => ?_
  have := sortedFrom_noInversion R R (fun a b h => by simp only [R, decide_eq_true_eq, decide_eq_false_iff_not, not_lt] at *; exact h.le)
    (fun _ _ h => h) (fun a b c h h' => by simp only [R, decide_eq_false_iff_not, not_lt] at *; exact h'.trans h) a b hab
  simpa [R] using this

/-! ## The middle position -/

/-- Four, as the two literals give it. -/
theorem five_sub_one : ((5 : ℝ) : EReal) - 1 = ((4 : ℝ) : EReal) := by
  rw [← EReal.coe_one, ← EReal.coe_sub]; norm_num

/-- A rounded position of two is the index two. -/
theorem indF_two (p : FVec Ideal S_ .f32) (hp : p = fun _ => ((2 : ℝ) : EReal)) : indF p = fun _ => 2#32 := by
  subst hp
  funext j
  pointwise [indF]
  rw [lit_five, five_sub_one, max_eq_left (by exact_mod_cast (by norm_num : (0 : ℝ) ≤ 2)),
    min_eq_left (EReal.coe_le_coe_iff.2 (by norm_num))]
  show Ideal.fptosi 32 _ = _
  rw [Ideal.fptosi, Ideal.toIntClamped_coe]
  norm_num

/-- The position of the median: a half of four. -/
theorem posF_half : posF (F := Ideal) (constant S_ .f32 0x3F000000#32) = fun _ => ((2 : ℝ) : EReal) := by
  funext j
  pointwise [posF]
  rw [lit_five, five_sub_one, lit_half, ← EReal.coe_mul]
  norm_num

theorem floor_two : Host.floor (F := Ideal) (s := S_) (φ := .f32) (fun _ => ((2 : ℝ) : EReal)) = fun _ => ((2 : ℝ) : EReal) := by
  funext j
  pointwise
  norm_num

theorem ceil_two : Host.ceil (F := Ideal) (s := S_) (φ := .f32) (fun _ => ((2 : ℝ) : EReal)) = fun _ => ((2 : ℝ) : EReal) := by
  funext j
  pointwise
  norm_num

/-- The gather at the index two reads the third element of each window. -/
theorem gather_two (s : FVec Ideal S4x512x2048x5 .f32) (i : Fin 4) (c : Fin 512) (t : Fin 2048) :
    Host.gather gather_S4x512x2048x5_S1_S4x512x2048_012_3_n_n_3_0_451220481 s (fun _ => 2#32) (ix3 i c t) = s (ix4 i c t 2) := by
  unfold Host.gather
  refine congrArg s ?_
  funext a
  refine Fin.ext ?_
  fin_cases a
  · show 0 + 0 + i.val = i.val; omega
  · show 0 + 0 + c.val = c.val; omega
  · show 0 + 0 + t.val = t.val; omega
  · rfl

/-- The mean of a value and itself is the value. -/
theorem half_twice (a : EReal) : (a + a) * ((1 / 2 : ℝ) : EReal) = a := by
  induction a with
  | bot => rw [EReal.bot_add, EReal.bot_mul_coe_of_pos (by norm_num)]
  | top => rw [EReal.top_add_top, EReal.top_mul_coe_of_pos (by norm_num)]
  | coe r => rw [← EReal.coe_add, ← EReal.coe_mul]; congr 1; ring

/-- The middle element of each sorted window. -/
theorem midF_apply (s : FVec Ideal S4x512x2048x5 .f32) (i : Fin 4) (c : Fin 512) (t : Fin 2048) :
    midF (constant S_ .f32 0x3F000000#32) s (ix3 i c t) = s (ix4 i c t 2) := by
  unfold midF
  rw [posF_half, floor_two, ceil_two, indF_two _ rfl]
  pointwise
  rw [gather_two, lit_half, half_twice]

/-- One pool of the reference: at each position the median of the five neighbours. -/
theorem poolF_apply (x : FVec Ideal S4x512x2048 .f32) (i : Fin 4) (c : Fin 512) (t : Fin 2048) :
    poolF x (ix3 i c t) = med (fun s => x (ix3 i c s)) t := by
  unfold poolF
  rw [midF_apply, sortF_apply]
  simp only [stack_pad_apply]
  rfl

end Cert.Ref

end
-- ==== Proof.Ref.Value.lean ====
module

public import proofs.«01_k».proof.Proof.Ref.Soft
public import proofs.«01_k».proof.Proof.Ref.Sort

/-!
What the reference's two results hold at an index: the posterior of the class, and the three times
pooled product of the spectrum with the selector of the second class.
-/

@[expose] public section

set_option maxRecDepth 16384

noncomputable section

namespace Cert.Ref

open Cert.ReferenceIdeal Cert.ReferenceIdeal.Gen Idealize.ShloMosaic Cert.Math

/-- The logit of class `k` at a frame. -/
def logit (x : FVec Ideal S4x512x2048 .f32) (w : FVec Ideal S2x512 .f32) (b : FVec Ideal S2 .f32) (i : Fin 4) (t : Fin 2048) (k : Fin 2) : EReal :=
  Ideal.div (∑ c : Fin 512, x (ix3 i c t) * w (ix2 k c) + b (ix1 k)) (Ideal.ofBits .f32 0x41200000#32)

/-- The posterior of class `k` at a frame. -/
theorem postF_apply (x : FVec Ideal S4x512x2048 .f32) (w : FVec Ideal S2x512 .f32) (b : FVec Ideal S2 .f32) (i : Fin 4) (t : Fin 2048) (k : Fin 2) :
    postF x w b (ix3 i t k) = sm (logit x w b i t 0) (logit x w b i t 1) (logit x w b i t k) := by
  unfold postF
  simp only [softF_apply, linF_apply]
  rfl

/-- The selected spectrum, where the softmax of the noisy logits is real: the spectrum where the second class
    has the larger value, zero elsewhere. -/
theorem sampF_apply (p u : FVec Ideal S4x2048x2 .f32) (e : FVec Ideal S4x512x2048 .f32) (i : Fin 4) (c : Fin 512) (t : Fin 2048) (r : ℝ)
    (hr : sm (noisy (p (ix3 i t 0)) (u (ix3 i t 0))) (noisy (p (ix3 i t 1)) (u (ix3 i t 1))) (noisy (p (ix3 i t 1)) (u (ix3 i t 1))) = r) :
    sampF p u e (ix3 i c t)
      = hot (sm (noisy (p (ix3 i t 0)) (u (ix3 i t 0))) (noisy (p (ix3 i t 1)) (u (ix3 i t 1))) (noisy (p (ix3 i t 0)) (u (ix3 i t 0))))
          (sm (noisy (p (ix3 i t 0)) (u (ix3 i t 0))) (noisy (p (ix3 i t 1)) (u (ix3 i t 1))) (noisy (p (ix3 i t 1)) (u (ix3 i t 1))))
        * e (ix3 i c t) := by
  unfold sampF
  simp only [selF_apply, hotF_apply, argF_apply, softF_apply, logitF_apply]
  conv_lhs => rw [hr]
  rw [sub_add_real, hr]
  unfold hot
  congr 1
  split_ifs <;> simp_all

end Cert.Ref

end
-- ==== Proof.Kern.Blk.lean ====
module

public import proofs.«01_k».proof.Proof.Kern.Pay
public import proofs.«01_k».proof.Proof.Ref.Value
public import Idealize.ShloMosaic.Lib.Pipeline.ValueKit

/-!
What the kernel's windows bring in at a grid point: the point is the batch element, and the blocks are
that element's spectra and draws (the draws' two columns as rows) and the whole weights and biases.
-/

@[expose] public section

set_option maxRecDepth 16384

noncomputable section

namespace Cert.Kern

open Cert.KernelIdeal Cert.KernelIdeal.Gen Idealize.ShloMosaic Cert.Math

/-! The block indices: the batch element in the windows that follow it, the origin in the weights and biases. -/

theorem e0 : ∀ t : Fin grid0.N, win0_0.index t = ![t.val, 0, 0] := by decide +kernel
theorem e1 : ∀ t : Fin grid0.N, win0_1.index t = ![t.val, 0, 0] := by decide +kernel
theorem e2 : ∀ t : Fin grid0.N, win0_2.index t = ![0, 0] := by decide +kernel
theorem e3 : ∀ t : Fin grid0.N, win0_3.index t = ![0] := by decide +kernel
theorem e4 : ∀ t : Fin grid0.N, win0_4.index t = ![t.val, 0, 0] := by decide +kernel
theorem e5 : ∀ t : Fin grid0.N, win0_5.index t = ![t.val, 0, 0] := by decide +kernel
theorem e6 : ∀ t : Fin grid0.N, win0_6.index t = ![t.val, 0, 0] := by decide +kernel

/-- The batch element of a grid point. -/
def el (t : Fin cfg0.N) : Fin 4 := ⟨t.val, t.isLt⟩

/-! The entry arrays. -/

section Args
variable (m : (ℓ : Loc nD τ sig) → Buf (Elt Ideal) ℓ) (c : Dev nD)

/-- The observed spectra. -/
def X : FVec Ideal S4x512x2048 .f32 := m ((c.tc : Thread nD τ).loc main_arg0)
/-- The spectra the mask is made from. -/
def E : FVec Ideal S4x512x2048 .f32 := m ((c.tc : Thread nD τ).loc main_arg1)
/-- The uniform draws. -/
def U : FVec Ideal S4x2048x2 .f32 := m ((c.tc : Thread nD τ).loc main_arg2)
/-- The weights. -/
def W : FVec Ideal S2x512 .f32 := m ((c.tc : Thread nD τ).loc main_arg3)
/-- The biases. -/
def B : FVec Ideal S2 .f32 := m ((c.tc : Thread nD τ).loc main_arg4)

end Args

variable (m : (ℓ : Loc nD τ sig) → Buf (Elt Ideal) ℓ) (c : Dev nD) (t : Fin cfg0.N)

theorem blk_x (a : Fin 512) (s : Fin 2048) : iblk m c 0 t (ix3 0 a s) = X m c (ix3 (el t) a s) := by
  blk_point [iblk, V_main_arg0, e0 t, el]

theorem blk_e (a : Fin 512) (s : Fin 2048) : iblk m c 4 t (ix3 0 a s) = E m c (ix3 (el t) a s) := by
  blk_point [iblk, V_main_arg1, e4 t, el]

theorem blk_w (k : Fin 2) (a : Fin 512) : iblk m c 2 t (ix2 k a) = W m c (ix2 k a) := by
  blk_point [iblk, V_main_arg3, e2 t]

/-- Before the region the draws are transposed. -/
theorem V_main_v0 : V m c main_v0 = transpose S4x2x2048 [0, 2, 1] (U m c) transposes_S4x2048x2_S4x2x2048_0_2_1 := by
  unfold V V0
  after_results
  rfl

/-- The draws' first row, as the body loads it. -/
theorem row_0 (h) (s : Fin 2048) :
    View.ld (iblk m c 1 t) (Rect.unit ![0, 0, 0] ![1, 1, 2048] h) (ix3 0 0 s) = U m c (ix3 (el t) s 0) := by
  refine (?_ : _ = V m c main_v0 (ix3 (el t) 0 s)).trans ?_
  · blk_point [iblk, e1 t, el]
  · rw [V_main_v0]
    pointwise

/-- The draws' second row, as the body loads it. -/
theorem row_1 (h) (s : Fin 2048) :
    View.ld (iblk m c 1 t) (Rect.unit ![0, 1, 0] ![1, 1, 2048] h) (ix3 0 0 s) = U m c (ix3 (el t) s 1) := by
  refine (?_ : _ = V m c main_v0 (ix3 (el t) 1 s)).trans ?_
  · blk_point [iblk, e1 t, el]
  · rw [V_main_v0]
    pointwise

/-- The first class's bias, as the body loads it. -/
theorem bias_0 (h h') : View.ld (iblk m c 3 t) (Rect.unit ![0] ![1] h) (Shape.Idx.first h') = B m c (ix1 0) := by
  blk_point [iblk, V_main_arg4, e3 t]

/-- The second class's bias, as the body loads it. -/
theorem bias_1 (h h') : View.ld (iblk m c 3 t) (Rect.unit ![1] ![1] h) (Shape.Idx.first h') = B m c (ix1 1) := by
  blk_point [iblk, V_main_arg4, e3 t]

/-- The body's logit is the reference's. -/
theorem lin_blk (s : Fin 2048) (k : Fin 2) :
    lin (iblk m c 0 t) (iblk m c 2 t) (B m c (ix1 k)) s k = Cert.Ref.logit (X m c) (W m c) (B m c) (el t) s k := by
  unfold lin Cert.Ref.logit
  simp only [blk_x, blk_w, mul_comm]

end Cert.Kern

end
-- ==== Proof.Kern.Arr.lean ====
module

public import proofs.«01_k».proof.Proof.Kern.Blk

/-!
The two arrays the kernel's region leaves: the posterior, class before frame, and the mask.
-/

@[expose] public section

set_option maxRecDepth 16384

noncomputable section

namespace Cert.Kern

open Cert.KernelIdeal Cert.KernelIdeal.Gen Idealize.ShloMosaic Cert.Math

/-- The posterior of class `k` at frame `s` of batch element `i`. -/
def prob (x : FVec Ideal S4x512x2048 .f32) (w : FVec Ideal S2x512 .f32) (b : FVec Ideal S2 .f32) (i : Fin 4) (s : Fin 2048) (k : Fin 2) : EReal :=
  sm (Cert.Ref.logit x w b i s 0) (Cert.Ref.logit x w b i s 1) (Cert.Ref.logit x w b i s k)

/-- The selected spectrum: `e` where the second class has the larger noisy probability, zero elsewhere. -/
def sel (p0 p1 u0 u1 e : EReal) : EReal :=
  e * hot (sm (noisy p0 u0) (noisy p1 u1) (noisy p0 u0)) (sm (noisy p0 u0) (noisy p1 u1) (noisy p1 u1))

/-- The mask at an index: the selected spectrum pooled three times along the frames. -/
def mask (x e : FVec Ideal S4x512x2048 .f32) (u : FVec Ideal S4x2048x2 .f32) (w : FVec Ideal S2x512 .f32) (b : FVec Ideal S2 .f32)
    (i : Fin 4) (a : Fin 512) (s : Fin 2048) : EReal :=
  med (med (med fun s => sel (prob x w b i s 0) (prob x w b i s 1) (u (ix3 i s 0)) (u (ix3 i s 1)) (e (ix3 i a s)))) s

variable (m : (ℓ : Loc nD τ sig) → Buf (Elt Ideal) ℓ) (c : Dev nD)

/-- The posterior array, class before frame. -/
def postArr : FVec Ideal S4x2x2048 .f32 := fun j => prob (X m c) (W m c) (B m c) (j 0) (j 2) (j 1)

/-- The mask array. -/
def maskArr : FVec Ideal S4x512x2048 .f32 := fun j => mask (X m c) (E m c) (U m c) (W m c) (B m c) (j 0) (j 1) (j 2)

theorem postArr_apply (i : Fin 4) (k : Fin 2) (s : Fin 2048) : postArr m c (ix3 i k s) = prob (X m c) (W m c) (B m c) i s k := by
  unfold postArr
  rfl

theorem maskArr_apply (i : Fin 4) (a : Fin 512) (s : Fin 2048) :
    maskArr m c (ix3 i a s) = mask (X m c) (E m c) (U m c) (W m c) (B m c) i a s := by
  unfold maskArr
  rfl

/-- An index of a block of 512 bins, by its coordinates. -/
theorem idx_bins (y : S1x512x2048.Idx) : ∃ (a : Fin 512) (s : Fin 2048), y = ix3 0 a s := by
  refine ⟨y 1, y 2, (eq_ix3 (n0 := 1) (n1 := 512) (n2 := 2048) y).trans ?_⟩
  rw [Subsingleton.elim (α := Fin 1) (y 0) 0]

/-- An index of a block of two classes, by its coordinates. -/
theorem idx_classes (y : S1x2x2048.Idx) : ∃ (k : Fin 2) (s : Fin 2048), y = ix3 0 k s := by
  refine ⟨y 1, y 2, (eq_ix3 (n0 := 1) (n1 := 2) (n2 := 2048) y).trans ?_⟩
  rw [Subsingleton.elim (α := Fin 1) (y 0) 0]

/-- An index of one row, by its coordinate. -/
theorem idx_row (y : S1x1x2048.Idx) : ∃ s : Fin 2048, y = ix3 0 0 s := by
  refine ⟨y 2, (eq_ix3 (n0 := 1) (n1 := 1) (n2 := 2048) y).trans ?_⟩
  rw [Subsingleton.elim (α := Fin 1) (y 0) 0, Subsingleton.elim (α := Fin 1) (y 1) 0]

/-- The block of the mask at a grid point. -/
theorem out_mask (t : Fin cfg0.N) (a : Fin 512) (s : Fin 2048) :
    (outsAt0 m c t).2 (ix3 0 a s) = mask (X m c) (E m c) (U m c) (W m c) (B m c) (el t) a s := by
  unfold outsAt0
  dsimp only
  frame_out
  rw [bias_0, bias_1, pay1_apply]
  unfold mask
  refine congrArg (fun f => med (med (med f)) s) (funext fun s => ?_)
  rw [pay16_apply s _ _ _ _ _ a _ _ (pay13_apply ..) (pay14_apply ..)]
  simp only [pay15_apply, lin_blk, blk_e, row_0, row_1]
  rfl

/-- The block of the posterior at a grid point. -/
theorem out_post (t : Fin cfg0.N) (k : Fin 2) (s : Fin 2048) :
    (outsAt0 m c t).1 (ix3 0 k s) = prob (X m c) (W m c) (B m c) (el t) s k := by
  unfold outsAt0
  dsimp only
  frame_out
  canon_tiles x h
  all_goals
    obtain ⟨s', rfl⟩ := idx_row x
    obtain rfl : s = s' := Fin.ext h2
  · obtain rfl : k = 1 := Fin.ext h1
    rw [pay12_apply, bias_0, bias_1]
    simp only [lin_blk]
    rfl
  · obtain rfl : k = 0 := Fin.ext h1
    rw [pay11_apply, bias_0, bias_1]
    simp only [lin_blk]
    rfl

/-- Where the mask's block of a grid point lies in its array. -/
theorem emb_mask (t : Fin cfg0.N) (a : Fin 512) (s : Fin 2048) :
    ((cfg0.win 6).blk t).view.emb (ix3 (n0 := 1) 0 a s) = ix3 (el t) a s := by
  blk_ext [e6 t, el]

/-- Where the posterior's block of a grid point lies in its array. -/
theorem emb_post (t : Fin cfg0.N) (k : Fin 2) (s : Fin 2048) :
    ((cfg0.win 5).blk t).view.emb (ix3 (n0 := 1) 0 k s) = ix3 (el t) k s := by
  blk_ext [e5 t, el]

theorem point_mask (t : Fin cfg0.N) (y : S1x512x2048.Idx) :
    (outsAt0 m c t).2 y = maskArr m c (((cfg0.win 6).blk t).view.emb y) := by
  obtain ⟨a, s, rfl⟩ := idx_bins y
  rw [emb_mask, maskArr_apply, out_mask]

theorem point_post (t : Fin cfg0.N) (y : S1x2x2048.Idx) :
    (outsAt0 m c t).1 y = postArr m c (((cfg0.win 5).blk t).view.emb y) := by
  obtain ⟨k, s, rfl⟩ := idx_classes y
  rw [emb_post, postArr_apply, out_post]

/-- The mask array after the region. -/
theorem arr_mask : (dats m 0 c).arrAt 6 cfg0.N = maskArr m c := by
  refine (dats m 0 c).arrAt_eq_of_covers 6 _ (by decide +kernel) fun t hf y => ?_
  blk_simp
  rw [after0_6]
  exact point_mask m c t y

/-- The posterior array after the region. -/
theorem arr_post : (dats m 0 c).arrAt 5 cfg0.N = postArr m c := by
  refine (dats m 0 c).arrAt_eq_of_covers 5 _ (by decide +kernel) fun t hf y => ?_
  blk_simp
  rw [after0_5]
  exact point_post m c t y

end Cert.Kern

end
-- ==== Proof.Kern.Run.lean ====
module

public import proofs.«01_k».proof.Proof.Kern.Arr

/-!
The kernel's run: its results are the posterior and the mask of the entry arrays.
-/

@[expose] public section

set_option maxRecDepth 16384

noncomputable section

namespace Cert.Kern

open Cert.KernelIdeal Cert.KernelIdeal.Gen Idealize.ShloMosaic Cert.Math

variable (m : (ℓ : Loc nD τ sig) → Buf (Elt Ideal) ℓ) (ρ : Dev nD → PrngReg)

/-- The first result: after the region the posterior array is transposed, class last. -/
def postRes (c : Dev nD) : FVec Ideal S4x2048x2 .f32 := transpose S4x2048x2 [0, 2, 1] (postArr m c) transposes_S4x2x2048_S4x2048x2_0_2_1

theorem postRes_apply (c : Dev nD) (i : Fin 4) (s : Fin 2048) (k : Fin 2) :
    postRes m c (ix3 i s k) = prob (X m c) (W m c) (B m c) i s k := by
  rw [← postArr_apply]
  pointwise [postRes]

/-- The line after the region: a transpose of the posterior array. -/
theorem line (V : Valuation τ sig (Elt Ideal)) :
    StableHlo.after [hostOps1].flatten V (Proc.tc.devRef main_v2)
      = transpose S4x2048x2 [0, 2, 1] (V (Proc.tc.devRef main_v1_0)) transposes_S4x2x2048_S4x2048x2_0_2_1 := by
  show StableHlo.after hostOps1 V (Proc.tc.devRef main_v2) = _
  after_results

/-- What the line after the region leaves in the first result. -/
theorem tail (c : Dev nD) : Pipeline.afterTail₀ cfgs (dats m) 0 (V0 m) [hostOps1] c main_v2 = postRes m c := by
  unfold Pipeline.afterTail₀
  refine (line _).trans ?_
  have h := Pipeline.withArrays_arr (cfgs 0).spec launch0.win.arr_inj c (V0 m c) (fun w => (dats m 0 c).arrAt w (cfgs 0).N) 5
  unfold postRes
  exact congrArg (fun v => transpose S4x2048x2 [0, 2, 1] v transposes_S4x2x2048_S4x2048x2_0_2_1) (h.trans (arr_post m c))

/-- The kernel ends with the posterior and the mask, the arguments unchanged. -/
theorem run : θ_run defs (onTc (τ := τ) (main (F := Ideal))) ⟨m, fun _ => 0, ρ⟩ (fun r => ∀ c : Dev nD,
      r.2.mem ((c.tc : Thread nD τ).loc main_v2) = postRes m c
      ∧ r.2.mem ((c.tc : Thread nD τ).loc main_v1_1) = maskArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (θ_run_and (run_main m ρ) (unchanged m ρ))
  refine ⟨?_, ?_, h.2 c⟩
  · exact ((h.1 c).2 main_v2 (Pipeline.mem_restRefs_of main_v2 (by decide) (by decide))).trans (tail m c)
  · exact ((h.1 c).1 6).trans (arr_mask m c)

end Cert.Kern

end
-- ==== Proof.Equal.lean ====
module

public import proofs.«01_k».proof.Proof.Kern.Run

/-!
The two programs' results are the same functions of the arguments: the posterior on all extended reals,
the mask where the spectra, the weights and the biases are real and the draws are real numbers of the
unit interval.
-/

@[expose] public section

set_option maxRecDepth 16384

noncomputable section

namespace Cert.Equal

open Cert.KernelIdeal Idealize.ShloMosaic Cert.Math Cert.Kern

variable (x e : FVec Ideal S4x512x2048 .f32) (u : FVec Ideal S4x2048x2 .f32) (w : FVec Ideal S2x512 .f32) (b : FVec Ideal S2 .f32)

/-- A finite sum of real extended reals is real. -/
theorem sum_real {n : ℕ} (f : Fin n → EReal) (h : ∀ c, ∃ r : ℝ, f c = r) : ∃ r : ℝ, ∑ c, f c = r := by
  choose g hg using h
  refine ⟨∑ c, g c, ?_⟩
  simp only [hg]
  exact (map_sum (⟨⟨Real.toEReal, EReal.coe_zero⟩, EReal.coe_add⟩ : ℝ →+ EReal) g Finset.univ).symm

section Real
variable (hx : ∀ j, ∃ r : ℝ, x j = r) (hw : ∀ j, ∃ r : ℝ, w j = r) (hb : ∀ j, ∃ r : ℝ, b j = r)
  (hu : ∀ j, ∃ r : ℝ, 0 ≤ r ∧ r ≤ 1 ∧ u j = r)
include hx hw hb

/-- The logits are real. -/
theorem logit_real (i : Fin 4) (t : Fin 2048) (k : Fin 2) : ∃ r : ℝ, Cert.Ref.logit x w b i t k = r := by
  obtain ⟨S, hS⟩ := sum_real (fun c : Fin 512 => x (ix3 i c t) * w (ix2 k c)) fun c => by
    obtain ⟨p, hp⟩ := hx (ix3 i c t)
    obtain ⟨q, hq⟩ := hw (ix2 k c)
    exact ⟨p * q, by rw [hp, hq, EReal.coe_mul]⟩
  obtain ⟨β, hβ⟩ := hb (ix1 k)
  unfold Cert.Ref.logit
  refine ⟨(S + β) * (1 / 10), ?_⟩
  rw [hS, hβ, lit_ten, ← EReal.coe_add, Ideal.div_coe (by norm_num), ← EReal.coe_mul]

/-- The posteriors are positive reals. -/
theorem post_real (i : Fin 4) (t : Fin 2048) (k : Fin 2) : ∃ r : ℝ, 0 < r ∧ prob x w b i t k = r := by
  obtain ⟨a, ha⟩ := logit_real x w b hx hw hb i t 0
  obtain ⟨d, hd⟩ := logit_real x w b hx hw hb i t 1
  obtain ⟨z, hz⟩ := logit_real x w b hx hw hb i t k
  unfold prob
  rw [ha, hd, hz]
  exact sm_real a d z

include hu

/-- The noisy logits are real. -/
theorem noisy_post_real (i : Fin 4) (t : Fin 2048) (k : Fin 2) : ∃ r : ℝ, noisy (prob x w b i t k) (u (ix3 i t k)) = r := by
  obtain ⟨p, hp, hpe⟩ := post_real x w b hx hw hb i t k
  obtain ⟨v, h0, h1, hv⟩ := hu (ix3 i t k)
  rw [hpe, hv]
  exact noisy_real p v hp h0 h1

/-- The reference's selected spectrum is the kernel's. -/
theorem samp_eq (i : Fin 4) (c : Fin 512) (t : Fin 2048) :
    Cert.Ref.sampF (Cert.Ref.postF x w b) u e (ix3 i c t)
      = sel (prob x w b i t 0) (prob x w b i t 1) (u (ix3 i t 0)) (u (ix3 i t 1)) (e (ix3 i c t)) := by
  obtain ⟨n0, h0⟩ := noisy_post_real x u w b hx hw hb hu i t 0
  obtain ⟨n1, h1⟩ := noisy_post_real x u w b hx hw hb hu i t 1
  obtain ⟨r, -, hr⟩ := sm_real n0 n1 n1
  have hp : ∀ k, Cert.Ref.postF x w b (ix3 i t k) = prob x w b i t k := fun k => Cert.Ref.postF_apply x w b i t k
  rw [Cert.Ref.sampF_apply _ u e i c t r (by rw [hp, hp, h0, h1]; exact hr), hp, hp, mul_comm]
  rfl

/-- The reference's mask is the kernel's, at an index. -/
theorem mask_eq (i : Fin 4) (c : Fin 512) (t : Fin 2048) :
    Cert.Ref.poolF (Cert.Ref.poolF (Cert.Ref.poolF (Cert.Ref.sampF (Cert.Ref.postF x w b) u e))) (ix3 i c t) = mask x e u w b i c t := by
  simp only [Cert.Ref.poolF_apply, samp_eq x e u w b hx hw hb hu]
  rfl

/-- The reference's second result is the kernel's. -/
theorem mask_ext (y : FVec Ideal S4x512x2048 .f32) (hy : ∀ i c t, y (ix3 i c t) = mask x e u w b i c t) :
    Cert.Ref.poolF (F := Ideal) (Cert.Ref.poolF (Cert.Ref.poolF (Cert.Ref.sampF (Cert.Ref.postF x w b) u e))) = y := by
  funext j
  rw [eq_ix3 (n0 := 4) (n1 := 512) (n2 := 2048) j]
  exact (mask_eq x e u w b hx hw hb hu _ _ _).trans (hy _ _ _).symm

end Real

/-- The reference's first result is the kernel's. -/
theorem post_ext (y : FVec Ideal S4x2048x2 .f32) (hy : ∀ i t k, y (ix3 i t k) = prob x w b i t k) :
    Cert.Ref.postF (F := Ideal) x w b = y := by
  funext j
  rw [eq_ix3 (n0 := 4) (n1 := 2048) (n2 := 2) j]
  exact (Cert.Ref.postF_apply x w b _ _ _).trans (hy _ _ _).symm

end Cert.Equal

end
-- ==== Proof.Pre.lean ====
module

public import proofs.«01_k».proof.Pre_finite_and_uniform
public import proofs.«01_k».proof.Proof.Math.Lits
public import Idealize.ShloMosaic.Lib.ReduceAll
public import Idealize.ShloMosaic.Lib.Pointwise

/-!
What the precondition says of each element: the spectra, the weights and the biases are real numbers,
the draws are real numbers of the unit interval.
-/

@[expose] public section

set_option maxRecDepth 16384

noncomputable section

namespace Cert.Pre

open Cert.Pre_finite_and_uniform Idealize.ShloMosaic Cert.Math

/-- The side conditions of the precondition's operations. -/
theorem facts : Facts := by constructor <;> decide

variable {s : Shape} (x y : FVec Ideal s .f32) (j : s.Idx)

theorem lt_of_cmpf (h : cmpf .olt x y j = 1#1) : x j < y j := by
  pointwise at h
  by_contra hn
  rw [decide_eq_false hn] at h
  exact absurd h (by decide)

theorem le_of_cmpf (h : cmpf .ole x y j = 1#1) : x j ≤ y j := by
  pointwise at h
  by_contra hn
  rw [decide_eq_false hn] at h
  exact absurd h (by decide)

theorem ge_of_cmpf (h : cmpf .oge x y j = 1#1) : y j ≤ x j := by
  pointwise at h
  by_contra hn
  rw [decide_eq_false hn] at h
  exact absurd h (by decide)

/-- An extended real whose absolute value is below infinity is real. -/
theorem real_of_abs {a : EReal} (h : max a (-a) < ⊤) : ∃ r : ℝ, a = r := by
  induction a using EReal.rec with
  | bot => simp at h
  | coe r => exact ⟨r, rfl⟩
  | top => simp at h

/-- An extended real of the unit interval is a real one. -/
theorem real_of_unit {a : EReal} (h0 : ((0 : ℝ) : EReal) ≤ a) (h1 : a ≤ ((1 : ℝ) : EReal)) : ∃ r : ℝ, 0 ≤ r ∧ r ≤ 1 ∧ a = r := by
  induction a using EReal.rec with
  | bot => simp at h0
  | coe r => exact ⟨r, EReal.coe_le_coe_iff.1 h0, EReal.coe_le_coe_iff.1 h1, rfl⟩
  | top => exact absurd (h1.trans_lt (EReal.coe_lt_top 1)) (lt_irrefl _)

/-- The comparison of the absolute values with infinity, read back. -/
theorem real_of_cmpf (h : S_.BroadcastsInDim s (![] : Fin 0 → Fin s.rank))
    (e : cmpf .olt (Host.absf x) (broadcastInDim s ![] h (constant (F := Ideal) S_ .f32 0x7F800000#32)) j = 1#1) : ∃ r : ℝ, x j = r := by
  have e' := lt_of_cmpf _ _ j e
  refine real_of_abs ?_
  rw [← lit_top]
  exact e'

instance : Subsingleton S_.Idx := ⟨fun a b => funext fun d => d.elim0⟩

/-- The precondition, element by element. -/
theorem read [Facts] (x e : FVec Ideal S4x512x2048 .f32) (u : FVec Ideal S4x2048x2 .f32) (w : FVec Ideal S2x512 .f32) (b : FVec Ideal S2 .f32)
    (h : fn (F := Ideal) x e u w b = fun _ => 1#1) :
    (∀ j, ∃ r : ℝ, x j = r) ∧ (∀ j, ∃ r : ℝ, w j = r) ∧ (∀ j, ∃ r : ℝ, b j = r) ∧ ∀ j, ∃ r : ℝ, 0 ≤ r ∧ r ≤ 1 ∧ u j = r := by
  have h' := congrFun h (fun d => d.elim0)
  unfold fn fn_part1 at h'
  dsimp only at h'
  obtain ⟨h3, hu⟩ := IntOp.andi_eq_one.1 h'
  obtain ⟨h2, hb⟩ := IntOp.andi_eq_one.1 h3
  obtain ⟨hx, hw⟩ := IntOp.andi_eq_one.1 h2
  refine ⟨fun j => ?_, fun j => ?_, fun j => ?_, fun j => ?_⟩
  · exact real_of_cmpf x j _ (Host.reduce_andi_all _ _ _ _ _ hx j)
  · exact real_of_cmpf w j _ (Host.reduce_andi_all _ _ _ _ _ hw j)
  · exact real_of_cmpf b j _ (Host.reduce_andi_all _ _ _ _ _ hb j)
  · obtain ⟨h0, h1⟩ := IntOp.andi_eq_one.1 (Host.reduce_andi_all _ _ _ _ _ hu j)
    have h0' := ge_of_cmpf _ _ j h0
    have h1' := le_of_cmpf _ _ j h1
    refine real_of_unit ?_ ?_
    · rw [← lit_zero]
      exact h0'
    · rw [← lit_one]
      exact h1'

end Cert.Pre

end
-- ==== Proof.lean ====
/-
  The proof of `Cert.Claim`: the three programs run and leave their arguments and their counters as the
  claim says, and the kernel's two results are the reference's. The value claim puts together the
  kernel's run (`Cert.Kern.run`), the reference's run (`Cert.Ref.run`), the precondition read element by
  element (`Cert.Pre.read`) and the equations between the results (`Cert.Equal`).
-/
module

public import proofs.«01_k».proof.Defs
public import proofs.«01_k».proof.Proof.Gen.Kernel.Frame
public import proofs.«01_k».proof.Proof.Ref.Run
public import proofs.«01_k».proof.Proof.Equal
public import proofs.«01_k».proof.Proof.Pre

@[expose] public section

set_option maxRecDepth 16384

noncomputable section

namespace Cert.Proof

open Idealize.ShloMosaic Idealize.SL.Sem

/-- The reference runs, leaves its arguments as they were, and has no counter that could end above zero. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
        ∧ r.2.sem = fun _ => 0) :=
  (θ_run Cert.ReferenceIdeal.defs _ _).mono
    (fun r h => ⟨fun c => (h c).2.2, sem_eq_zero_of_no_sems (by decide) r.2⟩) (Cert.Ref.run m g)

/-- The value claim: both results of the kernel are the reference's. -/
theorem algebraic [Cert.Pre_finite_and_uniform.Facts] : Cert.algebraic_KernelIdeal_ReferenceIdeal_pre_finite_and_uniform := by
  intro m g m' g' hpre hargs
  refine ⟨Cert.Kern.postRes m, Cert.Kern.maskArr m, Cert.Kern.run m g, ?_⟩
  refine (θ_run Cert.ReferenceIdeal.defs _ _).mono (fun r h c => ?_) (Cert.Ref.run m' g')
  obtain ⟨a0, a1, a2, a3, a4⟩ := hargs c
  obtain ⟨hx, hw, hb, hu⟩ := Cert.Pre.read _ _ _ _ _ (hpre c)
  have hp : Cert.Ref.postV (StableHlo.launchContents m' c) = Cert.Ref.postF (Cert.Kern.X m c) (Cert.Kern.W m c) (Cert.Kern.B m c) := by
    unfold Cert.Kern.X Cert.Kern.W Cert.Kern.B
    rw [← a0, ← a3, ← a4]
  have h1 : StableHlo.launchContents m' c (Proc.devRef .tc Cert.ReferenceIdeal.main_arg1) = Cert.Kern.E m c := a1
  have h2 : StableHlo.launchContents m' c (Proc.devRef .tc Cert.ReferenceIdeal.main_arg2) = Cert.Kern.U m c := a2
  refine ⟨(h c).1.trans (hp.trans ?_), (h c).2.1.trans ?_, (h c).2.2⟩
  · exact Cert.Equal.post_ext _ _ _ _ (Cert.Kern.postRes_apply m c)
  · rw [hp, h1, h2]
    exact Cert.Equal.mask_ext _ _ _ _ _ hx hw hb hu _ (Cert.Kern.maskArr_apply m c)

theorem claim : Cert.Claim :=
  ⟨Cert.Kernel.Gen.facts, Cert.KernelIdeal.Gen.facts, Cert.ReferenceIdeal.Gen.facts, Cert.Pre.facts,
    fun m g _ => Cert.Kernel.Gen.frame m g,
    fun m g _ => Cert.KernelIdeal.Gen.frame m g,
    fun m g _ => Cert.KernelIdeal.Gen.frame m g,
    fun m g _ => frame_reference m g,
    fun m g _ => frame_reference m g,
    trivial,
    letI := Cert.Pre.facts
    algebraic⟩

end Cert.Proof

end
